-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2x256x128x128 : Shape := ⟨5, ![2, 2, 256, 128, 128]⟩
abbrev S2x8x128x128 : Shape := ⟨4, ![2, 8, 128, 128]⟩
abbrev S1 : Shape := ⟨1, ![1]⟩
abbrev S_ : Shape := ⟨0, ![]⟩
abbrev S2x16x16x8 : Shape := ⟨4, ![2, 16, 16, 8]⟩
abbrev S12x2x16x16384 : Shape := ⟨4, ![12, 2, 16, 16384]⟩
abbrev S2x8x16384 : Shape := ⟨3, ![2, 8, 16384]⟩
abbrev S12 : Shape := ⟨1, ![12]⟩
abbrev S1x2x16x16384 : Shape := ⟨4, ![1, 2, 16, 16384]⟩
abbrev S2x16x16384 : Shape := ⟨3, ![2, 16, 16384]⟩
abbrev S2x2x256x16384 : Shape := ⟨4, ![2, 2, 256, 16384]⟩
abbrev S2x1x16x16384 : Shape := ⟨4, ![2, 1, 16, 16384]⟩
abbrev S2x8 : Shape := ⟨2, ![2, 8]⟩
abbrev S2x8x1 : Shape := ⟨3, ![2, 8, 1]⟩
abbrev S1x1x16x16384 : Shape := ⟨4, ![1, 1, 16, 16384]⟩
abbrev S16x16384 : Shape := ⟨2, ![16, 16384]⟩
abbrev S1x8x16384 : Shape := ⟨3, ![1, 8, 16384]⟩
abbrev S8x16384 : Shape := ⟨2, ![8, 16384]⟩
abbrev S16x8 : Shape := ⟨2, ![16, 8]⟩
abbrev S1x1x16x8 : Shape := ⟨4, ![1, 1, 16, 8]⟩
abbrev S2x8x16x16 : Shape := ⟨4, ![2, 8, 16, 16]⟩
abbrev S2x8x256 : Shape := ⟨3, ![2, 8, 256]⟩
abbrev S2x1x8x256 : Shape := ⟨4, ![2, 1, 8, 256]⟩

abbrev nBuf : Space → Nat
  | .hbm => 9
  | .vmem => 4
  | .smem => 0
  | _ => 0

abbrev bufTy : (tb : Table) → Fin (tcTables nBuf tb) → BufTy
  | .hbm, ⟨0, _⟩ => ⟨S2x2x256x128x128, .f32⟩
  | .hbm, ⟨1, _⟩ => ⟨S2x8x128x128, .f32⟩
  | .hbm, ⟨2, _⟩ => ⟨S1, .i32⟩
  | .hbm, ⟨3, _⟩ => ⟨S1, .i32⟩
  | .hbm, ⟨4, _⟩ => ⟨S_, .i32⟩
  | .hbm, ⟨5, _⟩ => ⟨S2x16x16x8, .f32⟩
  | .hbm, ⟨6, _⟩ => ⟨S2x8x16x16, .f32⟩
  | .hbm, ⟨7, _⟩ => ⟨S2x8x256, .f32⟩
  | .hbm, ⟨8, _⟩ => ⟨S2x1x8x256, .f32⟩
  | .local _ .vmem, ⟨0, _⟩ => ⟨S2x16x16x8, .f32⟩
  | .local _ .vmem, ⟨1, _⟩ => ⟨S12x2x16x16384, .f32⟩
  | .local _ .vmem, ⟨2, _⟩ => ⟨S2x8x16384, .f32⟩
  | .local _ .vmem, ⟨3, _⟩ => ⟨S2x8x16384, .f32⟩
  | _, _ => ⟨S2x2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

def k0_off1 (c0_i32 : BitVec 32) : Fin 1 → Nat :=
  let c12_i32 : BitVec 32 := 12#32
  let v1 : BitVec 32 := Scalar.remsi c0_i32 c12_i32
  ![v1.toNat]
def k0_off2 (c0_i32 : BitVec 32) : Fin 4 → Nat :=
  let c12_i32 : BitVec 32 := 12#32
  let v1 : BitVec 32 := Scalar.remsi c0_i32 c12_i32
  let c0_i32_1 : BitVec 32 := 0#32
  let c0_i32_2 : BitVec 32 := 0#32
  let c0_i32_3 : BitVec 32 := 0#32
  ![v1.toNat, 0, 0, 0]
@[reducible] def k0_t1_loop : Scf.Loop 32 :=
  let c0_i32_96 : BitVec 32 := 0#32
  let c32_i32_97 : BitVec 32 := 32#32
  let v134 : BitVec 32 := Scalar.addi c0_i32_96 c32_i32_97
  let c1_i32_98 : BitVec 32 := 1#32
  ⟨c0_i32_96, v134, c1_i32_98⟩
def k0_off3 (k0_t1 : Fin k0_t1_loop.trips) : Fin 1 → Nat :=
  let c0_i32_96 : BitVec 32 := 0#32
  let c1_i32_98 : BitVec 32 := 1#32
  let arg8 : BitVec 32 := Scf.iv c0_i32_96 c1_i32_98 k0_t1
  let c12_i32_113 : BitVec 32 := 12#32
  let v162 : BitVec 32 := Scalar.remsi arg8 c12_i32_113
  ![v162.toNat]
def k0_off4 (k0_t1 : Fin k0_t1_loop.trips) : Fin 4 → Nat :=
  let c0_i32_96 : BitVec 32 := 0#32
  let c1_i32_98 : BitVec 32 := 1#32
  let arg8 : BitVec 32 := Scf.iv c0_i32_96 c1_i32_98 k0_t1
  let c12_i32_113 : BitVec 32 := 12#32
  let v162 : BitVec 32 := Scalar.remsi arg8 c12_i32_113
  let c0_i32_115 : BitVec 32 := 0#32
  let c0_i32_116 : BitVec 32 := 0#32
  let c0_i32_117 : BitVec 32 := 0#32
  ![v162.toNat, 0, 0, 0]
def k0_off5 (k0_t1 : Fin k0_t1_loop.trips) : Fin 4 → Nat :=
  let c0_i32_118 : BitVec 32 := 0#32
  let c0_i32_96 : BitVec 32 := 0#32
  let c1_i32_98 : BitVec 32 := 1#32
  let arg8 : BitVec 32 := Scf.iv c0_i32_96 c1_i32_98 k0_t1
  let c0_i32_101 : BitVec 32 := 0#32
  let v136 : BitVec 1 := Scalar.cmpi .sgt arg8 c0_i32_101
  let v137 : BitVec 32 := Scalar.extui v136
  let c0_i32_102 : BitVec 32 := 0#32
  let v138 : BitVec 1 := Scalar.cmpi .slt arg8 c0_i32_102
  let v139 : BitVec 32 := Scalar.extui v138
  let v140 : BitVec 32 := Scalar.subi v137 v139
  let c16_i32_100 : BitVec 32 := 16#32
  let c0_i32_103 : BitVec 32 := 0#32
  let v141 : BitVec 1 := Scalar.cmpi .sgt c16_i32_100 c0_i32_103
  let v142 : BitVec 32 := Scalar.extui v141
  let c0_i32_104 : BitVec 32 := 0#32
  let v143 : BitVec 1 := Scalar.cmpi .slt c16_i32_100 c0_i32_104
  let v144 : BitVec 32 := Scalar.extui v143
  let v145 : BitVec 32 := Scalar.subi v142 v144
  let v146 : BitVec 1 := Scalar.cmpi .ne v140 v145
  let v147 : BitVec 32 := Scalar.remsi arg8 c16_i32_100
  let c0_i32_105 : BitVec 32 := 0#32
  let v148 : BitVec 1 := Scalar.cmpi .ne v147 c0_i32_105
  let v149 : BitVec 1 := Scalar.andi v146 v148
  let v135 : BitVec 32 := Scalar.divsi arg8 c16_i32_100
  let c1_i32_106 : BitVec 32 := 1#32
  let v150 : BitVec 32 := Scalar.subi v135 c1_i32_106
  let v151 : BitVec 32 := Scalar.select v149 v150 v135
  let c16_i32_107 : BitVec 32 := 16#32
  let c0_i32_108 : BitVec 32 := 0#32
  let v152 : BitVec 1 := Scalar.cmpi .eq c16_i32_107 c0_i32_108
  let c1_i32_109 : BitVec 32 := 1#32
  let v153 : BitVec 32 := Scalar.select v152 c1_i32_109 c16_i32_107
  let v154 : BitVec 32 := Scalar.remsi arg8 v153
  let c0_i32_111 : BitVec 32 := 0#32
  let v156 : BitVec 1 := Scalar.cmpi .slt v154 c0_i32_111
  let c0_i32_112 : BitVec 32 := 0#32
  let v157 : BitVec 1 := Scalar.cmpi .slt v153 c0_i32_112
  let v158 : BitVec 1 := Scalar.xori v156 v157
  let c0_i32_110 : BitVec 32 := 0#32
  let v155 : BitVec 1 := Scalar.cmpi .ne v154 c0_i32_110
  let v159 : BitVec 1 := Scalar.andi v158 v155
  let v160 : BitVec 32 := Scalar.addi v154 v153
  let v161 : BitVec 32 := Scalar.select v159 v160 v154
  let c16_i32_114 : BitVec 32 := 16#32
  let v163 : BitVec 32 := Scalar.muli v161 c16_i32_114
  let c0_i32_119 : BitVec 32 := 0#32
  ![0, v151.toNat, v163.toNat, 0]
def k0_off6 (k0_t1 : Fin k0_t1_loop.trips) : Fin 4 → Nat :=
  let c0_i32_96 : BitVec 32 := 0#32
  let c1_i32_98 : BitVec 32 := 1#32
  let arg8 : BitVec 32 := Scf.iv c0_i32_96 c1_i32_98 k0_t1
  let c12_i32_113 : BitVec 32 := 12#32
  let v162 : BitVec 32 := Scalar.remsi arg8 c12_i32_113
  let v171 : Index := Scalar.indexCast v162
  let c0_120 : Index := 0#32
  let c0_121 : Index := 0#32
  let c0_122 : Index := 0#32
  ![v171.toNat, 0, 0, 0]
def k0_off7 (k0_t1 : Fin k0_t1_loop.trips) : Fin 4 → Nat :=
  let c0_i32_96 : BitVec 32 := 0#32
  let c1_i32_98 : BitVec 32 := 1#32
  let arg8 : BitVec 32 := Scf.iv c0_i32_96 c1_i32_98 k0_t1
  let c12_i32_113 : BitVec 32 := 12#32
  let v162 : BitVec 32 := Scalar.remsi arg8 c12_i32_113
  let v174 : Index := Scalar.indexCast v162
  let c1 : Index := 1#32
  let c0_123 : Index := 0#32
  let c0_124 : Index := 0#32
  ![v174.toNat, 1, 0, 0]
def k0_off8 (k0_t1 : Fin k0_t1_loop.trips) : Fin 3 → Nat :=
  let c0_i32_96 : BitVec 32 := 0#32
  let c1_i32_98 : BitVec 32 := 1#32
  let arg8 : BitVec 32 := Scf.iv c0_i32_96 c1_i32_98 k0_t1
  let c0_i32_101 : BitVec 32 := 0#32
  let v136 : BitVec 1 := Scalar.cmpi .sgt arg8 c0_i32_101
  let v137 : BitVec 32 := Scalar.extui v136
  let c0_i32_102 : BitVec 32 := 0#32
  let v138 : BitVec 1 := Scalar.cmpi .slt arg8 c0_i32_102
  let v139 : BitVec 32 := Scalar.extui v138
  let v140 : BitVec 32 := Scalar.subi v137 v139
  let c16_i32_100 : BitVec 32 := 16#32
  let c0_i32_103 : BitVec 32 := 0#32
  let v141 : BitVec 1 := Scalar.cmpi .sgt c16_i32_100 c0_i32_103
  let v142 : BitVec 32 := Scalar.extui v141
  let c0_i32_104 : BitVec 32 := 0#32
  let v143 : BitVec 1 := Scalar.cmpi .slt c16_i32_100 c0_i32_104
  let v144 : BitVec 32 := Scalar.extui v143
  let v145 : BitVec 32 := Scalar.subi v142 v144
  let v146 : BitVec 1 := Scalar.cmpi .ne v140 v145
  let v147 : BitVec 32 := Scalar.remsi arg8 c16_i32_100
  let c0_i32_105 : BitVec 32 := 0#32
  let v148 : BitVec 1 := Scalar.cmpi .ne v147 c0_i32_105
  let v149 : BitVec 1 := Scalar.andi v146 v148
  let v135 : BitVec 32 := Scalar.divsi arg8 c16_i32_100
  let c1_i32_106 : BitVec 32 := 1#32
  let v150 : BitVec 32 := Scalar.subi v135 c1_i32_106
  let v151 : BitVec 32 := Scalar.select v149 v150 v135
  let v178 : Index := Scalar.indexCast v151
  let c0_125 : Index := 0#32
  let c0_126 : Index := 0#32
  ![v178.toNat, 0, 0]
def k0_off9 (k0_t1 : Fin k0_t1_loop.trips) : Fin 4 → Nat :=
  let c0_i32_96 : BitVec 32 := 0#32
  let c1_i32_98 : BitVec 32 := 1#32
  let arg8 : BitVec 32 := Scf.iv c0_i32_96 c1_i32_98 k0_t1
  let c0_i32_101 : BitVec 32 := 0#32
  let v136 : BitVec 1 := Scalar.cmpi .sgt arg8 c0_i32_101
  let v137 : BitVec 32 := Scalar.extui v136
  let c0_i32_102 : BitVec 32 := 0#32
  let v138 : BitVec 1 := Scalar.cmpi .slt arg8 c0_i32_102
  let v139 : BitVec 32 := Scalar.extui v138
  let v140 : BitVec 32 := Scalar.subi v137 v139
  let c16_i32_100 : BitVec 32 := 16#32
  let c0_i32_103 : BitVec 32 := 0#32
  let v141 : BitVec 1 := Scalar.cmpi .sgt c16_i32_100 c0_i32_103
  let v142 : BitVec 32 := Scalar.extui v141
  let c0_i32_104 : BitVec 32 := 0#32
  let v143 : BitVec 1 := Scalar.cmpi .slt c16_i32_100 c0_i32_104
  let v144 : BitVec 32 := Scalar.extui v143
  let v145 : BitVec 32 := Scalar.subi v142 v144
  let v146 : BitVec 1 := Scalar.cmpi .ne v140 v145
  let v147 : BitVec 32 := Scalar.remsi arg8 c16_i32_100
  let c0_i32_105 : BitVec 32 := 0#32
  let v148 : BitVec 1 := Scalar.cmpi .ne v147 c0_i32_105
  let v149 : BitVec 1 := Scalar.andi v146 v148
  let v135 : BitVec 32 := Scalar.divsi arg8 c16_i32_100
  let c1_i32_106 : BitVec 32 := 1#32
  let v150 : BitVec 32 := Scalar.subi v135 c1_i32_106
  let v151 : BitVec 32 := Scalar.select v149 v150 v135
  let v182 : Index := Scalar.indexCast v151
  let c16_i32_107 : BitVec 32 := 16#32
  let c0_i32_108 : BitVec 32 := 0#32
  let v152 : BitVec 1 := Scalar.cmpi .eq c16_i32_107 c0_i32_108
  let c1_i32_109 : BitVec 32 := 1#32
  let v153 : BitVec 32 := Scalar.select v152 c1_i32_109 c16_i32_107
  let v154 : BitVec 32 := Scalar.remsi arg8 v153
  let c0_i32_111 : BitVec 32 := 0#32
  let v156 : BitVec 1 := Scalar.cmpi .slt v154 c0_i32_111
  let c0_i32_112 : BitVec 32 := 0#32
  let v157 : BitVec 1 := Scalar.cmpi .slt v153 c0_i32_112
  let v158 : BitVec 1 := Scalar.xori v156 v157
  let c0_i32_110 : BitVec 32 := 0#32
  let v155 : BitVec 1 := Scalar.cmpi .ne v154 c0_i32_110
  let v159 : BitVec 1 := Scalar.andi v158 v155
  let v160 : BitVec 32 := Scalar.addi v154 v153
  let v161 : BitVec 32 := Scalar.select v159 v160 v154
  let v183 : Index := Scalar.indexCast v161
  let c0_128 : Index := 0#32
  let c0_129 : Index := 0#32
  ![v182.toNat, v183.toNat, 0, 0]
def k0_cond1 (k0_t1 : Fin k0_t1_loop.trips) : BitVec 1 :=
  let c0_i32_96 : BitVec 32 := 0#32
  let c1_i32_98 : BitVec 32 := 1#32
  let arg8 : BitVec 32 := Scf.iv c0_i32_96 c1_i32_98 k0_t1
  let c12_i32_130 : BitVec 32 := 12#32
  let v187 : BitVec 32 := Scalar.addi arg8 c12_i32_130
  let c32_i32_131 : BitVec 32 := 32#32
  let v188 : BitVec 1 := Scalar.cmpi .slt v187 c32_i32_131
  let v189 : BitVec 32 := Scalar.extui v188
  let c0_i32_132 : BitVec 32 := 0#32
  let v190 : BitVec 1 := Scalar.cmpi .ne v189 c0_i32_132
  v190

def k0_off10 (k0_t1 : Fin k0_t1_loop.trips) : Fin 1 → Nat :=
  let c0_i32_96 : BitVec 32 := 0#32
  let c1_i32_98 : BitVec 32 := 1#32
  let arg8 : BitVec 32 := Scf.iv c0_i32_96 c1_i32_98 k0_t1
  let c12_i32_133 : BitVec 32 := 12#32
  let v191 : BitVec 32 := Scalar.addi arg8 c12_i32_133
  let c12_i32_147 : BitVec 32 := 12#32
  let v219 : BitVec 32 := Scalar.remsi v191 c12_i32_147
  ![v219.toNat]
def k0_off11 (k0_t1 : Fin k0_t1_loop.trips) : Fin 4 → Nat :=
  let c0_i32_96 : BitVec 32 := 0#32
  let c1_i32_98 : BitVec 32 := 1#32
  let arg8 : BitVec 32 := Scf.iv c0_i32_96 c1_i32_98 k0_t1
  let c12_i32_133 : BitVec 32 := 12#32
  let v191 : BitVec 32 := Scalar.addi arg8 c12_i32_133
  let c12_i32_147 : BitVec 32 := 12#32
  let v219 : BitVec 32 := Scalar.remsi v191 c12_i32_147
  let c0_i32_149 : BitVec 32 := 0#32
  let c0_i32_150 : BitVec 32 := 0#32
  let c0_i32_151 : BitVec 32 := 0#32
  ![v219.toNat, 0, 0, 0]
def k0_off12 (k0_t1 : Fin k0_t1_loop.trips) : Fin 4 → Nat :=
  let c0_i32_152 : BitVec 32 := 0#32
  let c0_i32_96 : BitVec 32 := 0#32
  let c1_i32_98 : BitVec 32 := 1#32
  let arg8 : BitVec 32 := Scf.iv c0_i32_96 c1_i32_98 k0_t1
  let c12_i32_133 : BitVec 32 := 12#32
  let v191 : BitVec 32 := Scalar.addi arg8 c12_i32_133
  let c0_i32_135 : BitVec 32 := 0#32
  let v193 : BitVec 1 := Scalar.cmpi .sgt v191 c0_i32_135
  let v194 : BitVec 32 := Scalar.extui v193
  let c0_i32_136 : BitVec 32 := 0#32
  let v195 : BitVec 1 := Scalar.cmpi .slt v191 c0_i32_136
  let v196 : BitVec 32 := Scalar.extui v195
  let v197 : BitVec 32 := Scalar.subi v194 v196
  let c16_i32_134 : BitVec 32 := 16#32
  let c0_i32_137 : BitVec 32 := 0#32
  let v198 : BitVec 1 := Scalar.cmpi .sgt c16_i32_134 c0_i32_137
  let v199 : BitVec 32 := Scalar.extui v198
  let c0_i32_138 : BitVec 32 := 0#32
  let v200 : BitVec 1 := Scalar.cmpi .slt c16_i32_134 c0_i32_138
  let v201 : BitVec 32 := Scalar.extui v200
  let v202 : BitVec 32 := Scalar.subi v199 v201
  let v203 : BitVec 1 := Scalar.cmpi .ne v197 v202
  let v204 : BitVec 32 := Scalar.remsi v191 c16_i32_134
  let c0_i32_139 : BitVec 32 := 0#32
  let v205 : BitVec 1 := Scalar.cmpi .ne v204 c0_i32_139
  let v206 : BitVec 1 := Scalar.andi v203 v205
  let v192 : BitVec 32 := Scalar.divsi v191 c16_i32_134
  let c1_i32_140 : BitVec 32 := 1#32
  let v207 : BitVec 32 := Scalar.subi v192 c1_i32_140
  let v208 : BitVec 32 := Scalar.select v206 v207 v192
  let c16_i32_141 : BitVec 32 := 16#32
  let c0_i32_142 : BitVec 32 := 0#32
  let v209 : BitVec 1 := Scalar.cmpi .eq c16_i32_141 c0_i32_142
  let c1_i32_143 : BitVec 32 := 1#32
  let v210 : BitVec 32 := Scalar.select v209 c1_i32_143 c16_i32_141
  let v211 : BitVec 32 := Scalar.remsi v191 v210
  let c0_i32_145 : BitVec 32 := 0#32
  let v213 : BitVec 1 := Scalar.cmpi .slt v211 c0_i32_145
  let c0_i32_146 : BitVec 32 := 0#32
  let v214 : BitVec 1 := Scalar.cmpi .slt v210 c0_i32_146
  let v215 : BitVec 1 := Scalar.xori v213 v214
  let c0_i32_144 : BitVec 32 := 0#32
  let v212 : BitVec 1 := Scalar.cmpi .ne v211 c0_i32_144
  let v216 : BitVec 1 := Scalar.andi v215 v212
  let v217 : BitVec 32 := Scalar.addi v211 v210
  let v218 : BitVec 32 := Scalar.select v216 v217 v211
  let c16_i32_148 : BitVec 32 := 16#32
  let v220 : BitVec 32 := Scalar.muli v218 c16_i32_148
  let c0_i32_153 : BitVec 32 := 0#32
  ![0, v208.toNat, v220.toNat, 0]
abbrev stage0_0 : Fin 1 → Memref sig .tc .vmem S2x16x16x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2x256x128x128 : Shape := ⟨5, ![2, 2, 256, 128, 128]⟩
abbrev S2x8x128x128 : Shape := ⟨4, ![2, 8, 128, 128]⟩
abbrev S1 : Shape := ⟨1, ![1]⟩
abbrev S_ : Shape := ⟨0, ![]⟩
abbrev S2x2x128x128x256 : Shape := ⟨5, ![2, 2, 128, 128, 256]⟩
abbrev S2x2x16384x256 : Shape := ⟨4, ![2, 2, 16384, 256]⟩
abbrev S2x8x16384 : Shape := ⟨3, ![2, 8, 16384]⟩
abbrev S2x8 : Shape := ⟨2, ![2, 8]⟩
abbrev S2x2x256x8 : Shape := ⟨4, ![2, 2, 256, 8]⟩
abbrev S2x2x8x256 : Shape := ⟨4, ![2, 2, 8, 256]⟩
abbrev S1x2x8x1 : Shape := ⟨4, ![1, 2, 8, 1]⟩
abbrev S2x2x8x1 : Shape := ⟨4, ![2, 2, 8, 1]⟩
abbrev S1x1x1x1 : Shape := ⟨4, ![1, 1, 1, 1]⟩
abbrev S2x2x8 : Shape := ⟨3, ![2, 2, 8]⟩
abbrev S2x8x256 : Shape := ⟨3, ![2, 8, 256]⟩
abbrev S2x1x8x256 : Shape := ⟨4, ![2, 1, 8, 256]⟩

abbrev nBuf : Space → Nat
  | .hbm => 63
  | .vmem => 0
  | .smem => 0
  | _ => 0

abbrev bufTy : (tb : Table) → Fin (tcTables nBuf tb) → BufTy
  | .hbm, ⟨0, _⟩ => ⟨S2x2x256x128x128, .f32⟩
  | .hbm, ⟨1, _⟩ => ⟨S2x8x128x128, .f32⟩
  | .hbm, ⟨2, _⟩ => ⟨S1, .i32⟩
  | .hbm, ⟨3, _⟩ => ⟨S1, .i32⟩
  | .hbm, ⟨4, _⟩ => ⟨S_, .i32⟩
  | .hbm, ⟨5, _⟩ => ⟨S2x2x128x128x256, .f32⟩
  | .hbm, ⟨6, _⟩ => ⟨S2x2x16384x256, .f32⟩
  | .hbm, ⟨7, _⟩ => ⟨S2x8x16384, .f32⟩
  | .hbm, ⟨8, _⟩ => ⟨S_, .f32⟩
  | .hbm, ⟨9, _⟩ => ⟨S2x8x16384, .f32⟩
  | .hbm, ⟨10, _⟩ => ⟨S2x8x16384, .i1⟩
  | .hbm, ⟨11, _⟩ => ⟨S2x8x16384, .f32⟩
  | .hbm, ⟨12, _⟩ => ⟨S_, .f32⟩
  | .hbm, ⟨13, _⟩ => ⟨S2x8, .f32⟩
  | .hbm, ⟨14, _⟩ => ⟨S2x2x256x8, .f32⟩
  | .hbm, ⟨15, _⟩ => ⟨S2x2x8x256, .f32⟩
  | .hbm, ⟨16, _⟩ => ⟨S2x8x16384, .i32⟩
  | .hbm, ⟨17, _⟩ => ⟨S_, .f32⟩
  | .hbm, ⟨18, _⟩ => ⟨S_, .i32⟩
  | .hbm, ⟨19, _⟩ => ⟨S2x8, .f32⟩
  | .hbm, ⟨20, _⟩ => ⟨S2x8, .i32⟩
  | .hbm, ⟨21, _⟩ => ⟨S1x2x8x1, .i32⟩
  | .hbm, ⟨22, _⟩ => ⟨S2x2x8x1, .i32⟩
  | .hbm, ⟨23, _⟩ => ⟨S_, .i32⟩
  | .hbm, ⟨24, _⟩ => ⟨S2x2x8x1, .i32⟩
  | .hbm, ⟨25, _⟩ => ⟨S2x2x8x1, .i1⟩
  | .hbm, ⟨26, _⟩ => ⟨S_, .i32⟩
  | .hbm, ⟨27, _⟩ => ⟨S2x2x8x1, .i32⟩
  | .hbm, ⟨28, _⟩ => ⟨S2x2x8x1, .i32⟩
  | .hbm, ⟨29, _⟩ => ⟨S2x2x8x1, .i32⟩
  | .hbm, ⟨30, _⟩ => ⟨S1, .i32⟩
  | .hbm, ⟨31, _⟩ => ⟨S_, .i32⟩
  | .hbm, ⟨32, _⟩ => ⟨S2x2x8x1, .i32⟩
  | .hbm, ⟨33, _⟩ => ⟨S2x2x8x1, .i1⟩
  | .hbm, ⟨34, _⟩ => ⟨S1x1x1x1, .i32⟩
  | .hbm, ⟨35, _⟩ => ⟨S2x2x8x1, .i32⟩
  | .hbm, ⟨36, _⟩ => ⟨S2x2x8x1, .i1⟩
  | .hbm, ⟨37, _⟩ => ⟨S2x2x8x1, .i1⟩
  | .hbm, ⟨38, _⟩ => ⟨S_, .i1⟩
  | .hbm, ⟨39, _⟩ => ⟨S2x2x8, .i1⟩
  | .hbm, ⟨40, _⟩ => ⟨S2x2x8x256, .f32⟩
  | .hbm, ⟨41, _⟩ => ⟨S2x2x8x256, .i1⟩
  | .hbm, ⟨42, _⟩ => ⟨S_, .f32⟩
  | .hbm, ⟨43, _⟩ => ⟨S2x2x8x256, .f32⟩
  | .hbm, ⟨44, _⟩ => ⟨S2x2x8x256, .f32⟩
  | .hbm, ⟨45, _⟩ => ⟨S_, .f32⟩
  | .hbm, ⟨46, _⟩ => ⟨S2x8, .f32⟩
  | .hbm, ⟨47, _⟩ => ⟨S2x8, .f32⟩
  | .hbm, ⟨48, _⟩ => ⟨S1x2x8x1, .f32⟩
  | .hbm, ⟨49, _⟩ => ⟨S1x2x8x1, .f32⟩
  | .hbm, ⟨50, _⟩ => ⟨S_, .f32⟩
  | .hbm, ⟨51, _⟩ => ⟨S1x2x8x1, .f32⟩
  | .hbm, ⟨52, _⟩ => ⟨S1x2x8x1, .i1⟩
  | .hbm, ⟨53, _⟩ => ⟨S2x2x8x256, .f32⟩
  | .hbm, ⟨54, _⟩ => ⟨S2x2x8x256, .f32⟩
  | .hbm, ⟨55, _⟩ => ⟨S2x2x8x256, .i1⟩
  | .hbm, ⟨56, _⟩ => ⟨S2x2x8x256, .f32⟩
  | .hbm, ⟨57, _⟩ => ⟨S_, .f32⟩
  | .hbm, ⟨58, _⟩ => ⟨S2x8x256, .f32⟩
  | .hbm, ⟨59, _⟩ => ⟨S_, .f32⟩
  | .hbm, ⟨60, _⟩ => ⟨S2x8x256, .f32⟩
  | .hbm, ⟨61, _⟩ => ⟨S2x8x256, .f32⟩
  | .hbm, ⟨62, _⟩ => ⟨S2x1x8x256, .f32⟩
  | _, _ => ⟨S2x2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_c_2 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_c_3 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call2_v0 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_cst_4 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩

abbrev nD : Nat := 1
abbrev τ : Topo := Topo.v7x

variable {F : FTy → Type} [FloatOps F]
-- ==== Proof.Blocks.lean ====
/-
  THE BLOCKS: the kernel streams the features in 32 blocks (batch `t / 16`, channel group `t % 16`) through a ring of
  12 slots. Here the names of a slot, of its semaphore cell and of a block in the features array, and what a slot
  holds: nothing, or the transfer of a block on its way.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdx
public import Idealize.ShloMosaic.Lib.ValueLayout
public import Idealize.ShloMosaic.Lib.WritesUnit

@[expose] public section

noncomputable section

namespace Cert.KernelIdeal.Run

open Cert.KernelIdeal.Gen
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Where each trip reads and writes -/

/-- Trip `k` reads the selection of batch `k / 16`. -/
theorem off8_eq : ∀ k : Fin k0_t1_loop.trips, k0_off8 k = ![k.val / 16, 0, 0] := by decide +kernel

/-- Trip `k` writes the output block of batch `k / 16` and channel group `k % 16`. -/
theorem off9_eq : ∀ k : Fin k0_t1_loop.trips, k0_off9 k = ![k.val / 16, k.val % 16, 0, 0] := by decide +kernel

/-- The block trip `k` issues is block `k + 12`. -/
theorem off12_eq : ∀ k : Fin k0_t1_loop.trips, k0_off12 k = ![0, (k.val + 12) / 16, 16 * ((k.val + 12) % 16), 0] := by
  decide +kernel

/-- Trip `k` issues a block exactly while one is left. -/
theorem cond1_iff : ∀ k : Fin k0_t1_loop.trips, k0_cond1 k = 1#1 ↔ k.val + 12 < 32 := by decide +kernel

/-! ## Slots, cells, blocks -/

theorem slot_inb (n : Fin 12) : ∀ a, (![n.val, 0, 0, 0] : Fin 4 → ℕ) a + S1x2x16x16384.size a ≤ S12x2x16x16384.size a := by
  revert n; decide +kernel

/-- Slot `n` of the ring. -/
abbrev slotM (n : Fin 12) : Memref sig .tc .vmem S2x16x16384 .f32 :=
  ((Memref.whole cc0_scratch0).slice (Rect.unit (s := S12x2x16x16384) ![n.val, 0, 0, 0] S1x2x16x16384.size (slot_inb n)) (fun _ => rfl)).squeeze
    S2x16x16384 squeezes_S1x2x16x16384_S2x16x16384

/-- The semaphore slot `n`'s transfers complete on. -/
abbrev semK (n : Fin 12) : Fin (sig.nDmaSem) := ⟨n.val + 1, by have := n.isLt; show n.val + 1 < 14; omega⟩
abbrev cellK (n : Fin 12) : SemLoc sig := SemLoc.dma (semK n)

theorem blk_inb (t : Fin 32) :
    ∀ a, (![0, t.val / 16, 16 * (t.val % 16), 0] : Fin 4 → ℕ) a + S2x1x16x16384.size a ≤ S2x2x256x16384.size a := by
  revert t; decide +kernel

/-- Block `t` of the features: both levels, batch `t / 16`, sixteen channels from `16 * (t % 16)`. -/
abbrev blkM (t : Fin 32) : Memref sig .tc .hbm S2x16x16384 .f32 :=
  (((Memref.whole main_arg0).reshape S2x2x256x16384 reshapes_S2x2x256x128x128_S2x2x256x16384.1
      reshapes_S2x2x256x128x128_S2x2x256x16384.2 (Memref.isWhole_whole _).contiguous).slice
    (Rect.unit (s := S2x2x256x16384) ![0, t.val / 16, 16 * (t.val % 16), 0] S2x1x16x16384.size (blk_inb t)) (fun _ => rfl)).squeeze
    S2x16x16384 squeezes_S2x1x16x16384_S2x16x16384

/-! ## The names, as the trips spell them -/

/-- The slot a trip uses. -/
abbrev slotOf (k : Fin k0_t1_loop.trips) : Fin 12 := ⟨k.val % 12, Nat.mod_lt _ (by decide)⟩

theorem slot_of (n : Fin 12) {o : Fin 4 → ℕ} (ho : o = ![n.val, 0, 0, 0]) (hh hs hq) :
    ((Memref.whole cc0_scratch0).slice (Rect.unit (s := S12x2x16x16384) o S1x2x16x16384.size hh) hs).squeeze S2x16x16384 hq = slotM n :=
  congrArg (fun M : Memref sig .tc .vmem S1x2x16x16384 .f32 => M.squeeze S2x16x16384 hq)
    (Memref.slice_unit_congr _ ho _ _ _ fun _ => rfl)

theorem blk_of (t : Fin 32) {o : Fin 4 → ℕ} (ho : o = ![0, t.val / 16, 16 * (t.val % 16), 0]) (h1 h2 h3 hh hs hq) :
    (((Memref.whole main_arg0).reshape S2x2x256x16384 h1 h2 h3).slice
      (Rect.unit (s := S2x2x256x16384) o S2x1x16x16384.size hh) hs).squeeze S2x16x16384 hq = blkM t :=
  congrArg (fun M : Memref sig .tc .hbm S2x1x16x16384 .f32 => M.squeeze S2x16x16384 hq)
    (Memref.slice_unit_congr _ ho _ _ _ fun _ => rfl)

/-- The slot trip `k` waits for and reads. -/
@[sl_canon] theorem slot_off4 (k : Fin k0_t1_loop.trips) (hh hs hq) :
    ((Memref.whole cc0_scratch0).slice (Rect.unit (s := S12x2x16x16384) (k0_off4 k) S1x2x16x16384.size hh) hs).squeeze S2x16x16384 hq
      = slotM (slotOf k) := slot_of _ (k0_off4_eq k) _ _ _

/-- The slot trip `k` issues into is the one it read. -/
@[sl_canon] theorem slot_off11 (k : Fin k0_t1_loop.trips) (hh hs hq) :
    ((Memref.whole cc0_scratch0).slice (Rect.unit (s := S12x2x16x16384) (k0_off11 k) S1x2x16x16384.size hh) hs).squeeze S2x16x16384 hq
      = slotM (slotOf k) :=
  slot_of _ ((k0_off11_eq k).trans (by rw [Nat.add_mod_right])) _ _ _

/-- The block trip `k` issues. -/
@[sl_canon] theorem blk_off12 (k : Fin k0_t1_loop.trips) (hk : k.val + 12 < 32) (h1 h2 h3 hh hs hq) :
    (((Memref.whole main_arg0).reshape S2x2x256x16384 h1 h2 h3).slice
      (Rect.unit (s := S2x2x256x16384) (k0_off12 k) S2x1x16x16384.size hh) hs).squeeze S2x16x16384 hq = blkM ⟨k.val + 12, hk⟩ :=
  blk_of ⟨k.val + 12, hk⟩ (off12_eq k) _ _ _ _ _ _

theorem sem_of_offs : ∀ n : Fin 12, ∀ hh,
    ((cc0_scratch3.slice (Rect.unit (s := S12) ![n.val] S1.size hh)).squeeze S_ squeezes_S1_S_).sem = semK n := by decide +kernel

theorem sem_of (n : Fin 12) {o : Fin 1 → ℕ} (ho : o = ![n.val]) (hh hq) :
    ((cc0_scratch3.slice (Rect.unit (s := S12) o S1.size hh)).squeeze S_ hq).sem = semK n := by
  subst ho; exact sem_of_offs n hh

/-- The cell trip `k` waits on. -/
@[sl_canon] theorem sem_off3 (k : Fin k0_t1_loop.trips) (hh hq) :
    ((cc0_scratch3.slice (Rect.unit (s := S12) (k0_off3 k) S1.size hh)).squeeze S_ hq).sem = semK (slotOf k) :=
  sem_of _ (k0_off3_eq k) _ _

/-- The cell trip `k` issues on is the one it waited on. -/
@[sl_canon] theorem sem_off10 (k : Fin k0_t1_loop.trips) (hh hq) :
    ((cc0_scratch3.slice (Rect.unit (s := S12) (k0_off10 k) S1.size hh)).squeeze S_ hq).sem = semK (slotOf k) :=
  sem_of _ ((k0_off10_eq k).trans (by rw [Nat.add_mod_right])) _ _

/-! ## What a slot holds -/

abbrev FeatB (c : Dev nD) : Type := Buf (Elt F) ((Memref.whole main_arg0 : Memref sig .tc .hbm S2x2x256x128x128 .f32).view.loc (c : Thread nD τ))

/-- The features array read through slot `n`'s share, on the elements `S`. -/
abbrev tokA (c : Dev nD) (fa : FeatB (F := F) c) (n : Fin 12)
    (S : Finset (Idx ((Memref.whole main_arg0 : Memref sig .tc .hbm S2x2x256x128x128 .f32).view.loc (c : Thread nD τ)))) : sProp 𝕄 :=
  (Memref.whole main_arg0 : Memref sig .tc .hbm S2x2x256x128x128 .f32).view.loc (c : Thread nD τ) ↦[S]{Transfers.shareTok fullShare 12 n} fa

/-- Slot `n` free: its counter at zero, the slot at anything, its share of the features whole. -/
abbrev free (c : Dev nD) (fa : FeatB (F := F) c) (n : Fin 12) : sProp 𝕄 :=
  iprop(semVal ((c : Thread nD τ), cellK n) 0
    ∗ (∃ f, (slotM n).view.loc (c : Thread nD τ) ↦[(slotM n).view.set]{fullShare} f) ∗ tokA c fa n Finset.univ)

/-- Block `t` as the array holds it. -/
abbrev blkV (c : Dev nD) (fa : FeatB (F := F) c) (t : Fin 32) : S2x16x16384.Idx → Elt F .f32 :=
  ReadAs.same.apply ((blkM t).view.read (Elt F) fa)

/-- Slot `n` with block `t` on its way. -/
abbrev inflight (c : Dev nD) (fa : FeatB (F := F) c) (n : Fin 12) (t : Fin 32) : sProp 𝕄 :=
  iprop((∃ f, Transfers.Flight (countersEmb (U := Pipeline.UD sig nD τ)) (c : Thread nD τ) (cellK n) () 65536
            iprop(((slotM n).view.loc (c : Thread nD τ) ↦[(slotM n).view.set]{fullShare}
                    (slotM n).view.writes (Elt F) f [⟨Rect.whole S2x16x16384, blkV c fa t⟩])
              ∗ tokA c fa n (blkM t).view.set))
    ∗ tokA c fa n (Finset.univ \ (blkM t).view.set))

/-- Slot `n` in state `s`: free, or a block on its way. -/
def slotΦ (c : Dev nD) (fa : FeatB (F := F) c) (n : Fin 12) (s : Option (Fin 32)) : sProp 𝕄 :=
  match s with
  | none => free c fa n
  | some t => inflight c fa n t

/-! ## A slot as part of the ring -/

/-- Slot `n`'s place in the ring. -/
abbrev rectS (n : Fin 12) : Rect S12x2x16x16384 :=
  Rect.unit (s := S12x2x16x16384) ![n.val, 0, 0, 0] S1x2x16x16384.size (slot_inb n)

theorem slot_set (n : Fin 12) :
    (slotM n).view.set = (Memref.whole cc0_scratch0 : Memref sig .tc .vmem S12x2x16x16384 .f32).view.setOn (rectS n).set :=
  (View.set_reshape _ _).trans (View.set_slice _ _)

/-- A slot's contents read. -/
abbrev slotR (c : Dev nD) (n : Fin 12)
    (g : Buf (Elt F) ((Memref.whole cc0_scratch0 : Memref sig .tc .vmem S12x2x16x16384 .f32).view.loc (c : Thread nD τ))) :
    S2x16x16384.Idx → Elt F .f32 := (slotM n).view.read (Elt F) g

/-- A landed block: the ring held at the slot's place, the slot reading as the block. -/
theorem slot_open (c : Dev nD) (n : Fin 12) (f) (v : S2x16x16384.Idx → Elt F .f32) :
    ((slotM n).view.loc (c : Thread nD τ) ↦[(slotM n).view.set]{fullShare}
        (slotM n).view.writes (Elt F) f [⟨Rect.whole S2x16x16384, v⟩] : sProp 𝕄)
      ⊢ iprop(∃ g, ((Memref.whole cc0_scratch0 : Memref sig .tc .vmem S12x2x16x16384 .f32).view.loc (c : Thread nD τ)
          ↦[(Memref.whole cc0_scratch0 : Memref sig .tc .vmem S12x2x16x16384 .f32).view.setOn (rectS n).set]{fullShare} g)
          ∗ ⌜slotR c n g = v⌝) := by
  iintro H
  iexists ((slotM n).view.writes (Elt F) f [⟨Rect.whole S2x16x16384, v⟩])
  isplitl [H]
  · iapply (Entails.of_eq (by rw [slot_set n] :
      ((slotM n).view.loc (c : Thread nD τ) ↦[(slotM n).view.set]{fullShare}
        (slotM n).view.writes (Elt F) f [⟨Rect.whole S2x16x16384, v⟩] : sProp 𝕄) = _))
    iexact H
  · ipureintro
    exact View.read_writes_whole _ _ _

/-- The ring held at a slot's place is the slot held. -/
theorem slot_close (c : Dev nD) (n : Fin 12) (g) :
    ((Memref.whole cc0_scratch0 : Memref sig .tc .vmem S12x2x16x16384 .f32).view.loc (c : Thread nD τ)
          ↦[(Memref.whole cc0_scratch0 : Memref sig .tc .vmem S12x2x16x16384 .f32).view.setOn (rectS n).set]{fullShare} g : sProp 𝕄)
      ⊢ ((slotM n).view.loc (c : Thread nD τ) ↦[(slotM n).view.set]{fullShare} g) :=
  Entails.of_eq (by rw [slot_set n])

/-! ## What a trip reads and writes, by values -/

abbrev ringM : Memref sig .tc .vmem S12x2x16x16384 .f32 := Memref.whole cc0_scratch0
abbrev selM : Memref sig .tc .vmem S2x8x16384 .f32 := Memref.whole cc0_scratch2

/-- Level `l` of a block, as a load of it. -/
def levV (v : S2x16x16384.Idx → Elt F .f32) (l : Fin 2) : Vec F S1x1x16x16384 .f32 := fun x => v (ix3 l (x 2) (x 3))

/-- Batch `b` of the selection, as a load of it. -/
def selRow (s : S2x8x16384.Idx → Elt F .f32) (b : Fin 2) : Vec F S1x8x16384 .f32 := fun x => s (ix3 b (x 1) (x 2))

/-- A load of the ring at level `l` of slot `n` reads the level of what the slot holds. -/
theorem lev_read (c : Dev nD) (n : Fin 12) (g) (l : Fin 2) {o : Fin 4 → ℕ} (ho : o = ![n.val, l.val, 0, 0]) (hh) :
    ringM.view.readAt (Elt F) (Rect.unit (s := S12x2x16x16384) o S1x1x16x16384.size hh).toLoadRect g = levV (slotR c n g) l := by
  subst ho
  funext x
  refine Eq.trans ?_ (congrArg (fun i => ringM.view.read (Elt F) g ((rectS n).emb i))
    (ValueIdx.reshapeEquiv_ix3_1abc (a := 2) (b := 16) (c := 16384) (by decide) l (x 2) (x 3)).symm)
  refine congrArg (ringM.view.read (Elt F) g) (funext fun a => Fin.ext ?_)
  have h0 : (x 0).val = 0 := by have := (x 0).isLt; exact Nat.lt_one_iff.mp this
  have h1 : (x 1).val = 0 := by have := (x 1).isLt; exact Nat.lt_one_iff.mp this
  match a with
  | ⟨0, _⟩ => show n.val + 1 * (x 0).val = n.val + 1 * 0; omega
  | ⟨1, _⟩ => show l.val + 1 * (x 1).val = 0 + 1 * l.val; omega
  | ⟨2, _⟩ => rfl
  | ⟨3, _⟩ => rfl

/-- A load of the selection at batch `b` reads the batch of what it holds. -/
theorem sel_read (b : Fin 2) (fs : selM.view.ty.Contents (Elt F)) {o : Fin 3 → ℕ} (ho : o = ![b.val, 0, 0]) (hh) :
    selM.view.readAt (Elt F) (Rect.unit (s := S2x8x16384) o S1x8x16384.size hh).toLoadRect fs = selRow (selM.view.read (Elt F) fs) b := by
  subst ho
  funext x
  refine congrArg (selM.view.read (Elt F) fs) (funext fun a => Fin.ext ?_)
  have h0 : (x 0).val = 0 := by have := (x 0).isLt; exact Nat.lt_one_iff.mp this
  match a with
  | ⟨0, _⟩ => show b.val + 1 * (x 0).val = b.val; omega
  | ⟨1, _⟩ => show 0 + 1 * (x 1).val = (x 1).val; omega
  | ⟨2, _⟩ => show 0 + 1 * (x 2).val = (x 2).val; omega

/-- The block an output entry comes from. -/
def blkOf (y : S2x16x16x8.Idx) : Fin 32 :=
  ⟨16 * (y 0).val + (y 1).val, by have h0 : (y 0).val < 2 := (y 0).isLt; have h1 : (y 1).val < 16 := (y 1).isLt; omega⟩

/-- What the kernel leaves in its output, entry by entry: the block's two levels' product with the batch's selection. -/
def outV (blk : Fin 32 → S2x16x16384.Idx → Elt F .f32) (s : S2x8x16384.Idx → Elt F .f32) (y : S2x16x16x8.Idx) : Elt F .f32 :=
  k0_pay2 (levV (blk (blkOf y)) 0) (levV (blk (blkOf y)) 1) (selRow s (y 0)) (ix4 (0 : Fin 1) (0 : Fin 1) (y 2) (y 3))

/-! ## The ring before trip `k` -/

/-- What slot `n` holds before trip `k`: the one block of the twelve from `k` on that falls to the slot, if there is one. -/
def st (k : ℕ) (n : Fin 12) : Option (Fin 32) :=
  if h : k + (n.val + 12 - k % 12) % 12 < 32 then some ⟨k + (n.val + 12 - k % 12) % 12, h⟩ else none

theorem st_self (k : Fin k0_t1_loop.trips) (hk : k.val < 32) : st k.val (slotOf k) = some ⟨k.val, hk⟩ := by
  have e : k.val + (k.val % 12 + 12 - k.val % 12) % 12 = k.val := by omega
  unfold st
  simp only [e]
  rw [dif_pos hk]

/-- A trip's slot moves on to the block twelve later, if there is one; the other slots stay. -/
theorem st_succ (k : Fin k0_t1_loop.trips) :
    Function.update (st k.val) (slotOf k) (if h : k.val + 12 < 32 then some ⟨k.val + 12, h⟩ else none) = st (k.val + 1) := by
  funext n
  by_cases hn : n = slotOf k
  · subst hn
    have e : k.val + 1 + (k.val % 12 + 12 - (k.val + 1) % 12) % 12 = k.val + 12 := by omega
    rw [Function.update_self]
    unfold st
    simp only [e]
  · have hv : n.val ≠ k.val % 12 := fun h => hn (Fin.ext h)
    have e : k.val + 1 + (n.val + 12 - (k.val + 1) % 12) % 12 = k.val + (n.val + 12 - k.val % 12) % 12 := by
      have := n.isLt; omega
    rw [Function.update_of_ne hn]
    unfold st
    simp only [e]

end Cert.KernelIdeal.Run

end

end
-- ==== Proof.Trip.lean ====
/-
  ONE TRIP of the ring loop.
-/
module

public import proofs.«01_k».proof.Proof.Blocks

@[expose] public section

noncomputable section

namespace Cert.KernelIdeal.Run

open Cert.KernelIdeal.Gen
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The output, by what is known of it -/

section Out

variable (c : Dev nD) (fa : FeatB (F := F) c) (fs : selM.view.ty.Contents (Elt F))
  (arg2 : Memref sig .tc .vmem S2x16x16x8 .f32) (harg2 : arg2.IsWhole)

/-- The output array at the whole kernel's value, below block `k`. -/
def Done (k : ℕ) (fo : Buf (Elt F) (arg2.view.loc (c : Thread nD τ))) : Prop :=
  ∀ y : S2x16x16x8.Idx, (blkOf y).val < k →
    arg2.view.read (Elt F) fo y = outV (blkV c fa) (selM.view.read (Elt F) fs) y

/-- A trip's store makes one more block known. -/
theorem done_succ (k : Fin k0_t1_loop.trips) (hk : k.val < 32) (fo) (h : Done c fa fs arg2 k.val fo) (g)
    (hg : slotR c (slotOf k) g = blkV c fa ⟨k.val, hk⟩) (h6 h7 h8 h9) :
    Done c fa fs arg2 (k.val + 1) (arg2.view.writes (Elt F) fo
      [⟨Rect.unit (s := S2x16x16x8) (k0_off9 k) S1x1x16x8.size h9,
        k0_pay2 (ringM.view.readAt (Elt F) (Rect.unit (s := S12x2x16x16384) (k0_off6 k) S1x1x16x16384.size h6).toLoadRect g)
          (ringM.view.readAt (Elt F) (Rect.unit (s := S12x2x16x16384) (k0_off7 k) S1x1x16x16384.size h7).toLoadRect g)
          (selM.view.readAt (Elt F) (Rect.unit (s := S2x8x16384) (k0_off8 k) S1x8x16384.size h8).toLoadRect fs)⟩]) := by
  intro y hy
  have hb : (blkOf y).val = 16 * (y 0).val + (y 1).val := rfl
  have h0 : (y 0).val < 2 := (y 0).isLt
  have h1 : (y 1).val < 16 := (y 1).isLt
  by_cases e : (blkOf y).val = k.val
  · rw [View.read_writes_cons_unit_of_mem (off' := ![k.val / 16, k.val % 16, 0, 0]) (x := ix4 (0 : Fin 1) (0 : Fin 1) (y 2) (y 3)) (heq := off9_eq k)]
    · rw [lev_read c (slotOf k) g 0 (k0_off6_eq k), lev_read c (slotOf k) g 1 (k0_off7_eq k), hg,
        sel_read (y 0) fs (by rw [off8_eq k, show k.val / 16 = (y 0).val by omega])]
      have eb : (⟨k.val, hk⟩ : Fin 32) = blkOf y := Fin.ext e.symm
      rw [eb]; rfl
    · intro a
      match a with
      | ⟨0, _⟩ => show (y 0).val = k.val / 16 + 0; omega
      | ⟨1, _⟩ => show (y 1).val = k.val % 16 + 0; omega
      | ⟨2, _⟩ => show (y 2).val = 0 + (y 2).val; omega
      | ⟨3, _⟩ => show (y 3).val = 0 + (y 3).val; omega
  · have hlt : (blkOf y).val < k.val := by omega
    by_cases e0 : (y 0).val = k.val / 16
    · rw [View.read_writes_cons_unit_of_not_mem (off' := ![k.val / 16, k.val % 16, 0, 0]) (heq := off9_eq k) (a := 1)]
      · exact h y hlt
      · left; show (y 1).val < k.val % 16; omega
    · rw [View.read_writes_cons_unit_of_not_mem (off' := ![k.val / 16, k.val % 16, 0, 0]) (heq := off9_eq k) (a := 0)]
      · exact h y hlt
      · left; show (y 0).val < k.val / 16; omega

/-! ## One trip -/

abbrev selP (c : Dev nD) (fs : selM.view.ty.Contents (Elt F)) : sProp 𝕄 := selM.view.loc (c : Thread nD τ) ↦[selM.view.set]{fullShare} fs

/-- What the loop holds before trip `k`: the ring, the selection, the output known below block `k`. -/
def inv (k : ℕ) : sProp 𝕄 :=
  iprop(Ring.AtW (slotΦ c fa) (st k) ∗ selP c fs
    ∗ (∃ fo, (arg2.view.loc (c : Thread nD τ) ↦[arg2.view.set]{fullShare} fo) ∗ ⌜Done c fa fs arg2 k fo⌝)
    ∗ (∃ W, owes (c : Thread nD τ) 0 W))

theorem trip (k : Fin k0_t1_loop.trips) :
    inv c fa fs arg2 k.val
      ⊢ wp frame (wpE (defs₀ (F := F)) Variants.none c none) Set.univ
          (k0_t1_body (F := F) (Memref.whole main_arg0) (Memref.isWhole_whole _) (Memref.whole main_arg1) (Memref.isWhole_whole _) arg2 harg2
            (Memref.whole cc0_scratch0) (Memref.isWhole_whole _) (Memref.whole cc0_scratch1) (Memref.isWhole_whole _)
            (Memref.whole cc0_scratch2) (Memref.isWhole_whole _) cc0_scratch3 cc0_scratch4 k ()) (fun _ => inv c fa fs arg2 (k.val + 1)) := by
  have hk : k.val < 32 := k.isLt
  unfold inv
  rw [Ring.AtW_focus (slotΦ c fa) (st k.val) (slotOf k), st_self k hk, ← st_succ k]
  show iprop((inflight c fa (slotOf k) ⟨k.val, hk⟩ ∗ _) ∗ _) ⊢ _
  iintro ⟨⟨⟨⟨%f, Hfl⟩, Htok⟩, Hrest⟩, H5, ⟨%fo, H2, %hdone⟩, ⟨%W, HW⟩⟩
  unfold k0_t1_body
  rw [k0_part1_eq_skeleton]
  unfold k0_part1_skel
  sl_exec
  ihave Hs := (slot_open c (slotOf k) f (blkV c fa ⟨k.val, hk⟩)) $$ Hfl_dst
  icases Hs with ⟨%g, Hs, %hg⟩
  sl_exec
  have hd := done_succ c fa fs arg2 k hk fo hdone g hg (k0_off6_inb k) (k0_off7_inb k) (k0_off8_inb k) (k0_off9_inb k)
  by_cases h12 : k.val + 12 < 32
  · have hc : k0_cond1 k = 1#1 := (cond1_iff k).mpr h12
    ihave Hs := (slot_close c (slotOf k) g) $$ Hs
    sl_exec
    sl_step
    rw [dif_pos h12]
    isplitl [Hrest Hfl Htok]
    · iapply (show iprop(inflight c fa (slotOf k) ⟨k.val + 12, h12⟩ ∗ Ring.restW (slotΦ c fa) (st k.val) (slotOf k)) ⊢ _ from
        Ring.AtW_update (slotΦ c fa) (st k.val) (slotOf k) (some ⟨k.val + 12, h12⟩))
      isplitr [Hrest]
      · isplitl [Hfl]
        · iexists g; iexact Hfl
        · iexact Htok
      · iexact Hrest
    isplitl [H5]; · iexact H5
    isplitl [H2]
    · iexists _; isplitl [H2]
      · iexact H2
      · ipureintro; exact hd
    · iexists _; iexact HW
  · have hc : ¬ k0_cond1 k = 1#1 := fun h => h12 ((cond1_iff k).mp h)
    ihave Hs := (slot_close c (slotOf k) g) $$ Hs
    sl_exec
    sl_step
    rw [dif_neg h12]
    isplitl [Hrest Hfl Htok Hs]
    · iapply (show iprop(free c fa (slotOf k) ∗ Ring.restW (slotΦ c fa) (st k.val) (slotOf k)) ⊢ _ from
        Ring.AtW_update (slotΦ c fa) (st k.val) (slotOf k) none)
      isplitr [Hrest]
      · isplitl [Hfl]; · iexact Hfl
        isplitl [Hs]; · iexists g; iexact Hs
        iexact Htok
      · iexact Hrest
    isplitl [H5]; · iexact H5
    isplitl [H2]
    · iexists _; isplitl [H2]
      · iexact H2
      · ipureintro; exact hd
    · iexists _; iexact HW

set_option warn.classDefReducibility false in
/-- THE LOOP: its invariant, and that a trip keeps it. -/
@[sl_loop] def loopInv :
    LoopInvTy_k0_t1 (F := F) Unit ℕ (Pipeline.UD sig nD τ) ℕ Variants.none c none Set.univ
      (Memref.whole main_arg0) (Memref.isWhole_whole _) (Memref.whole main_arg1) (Memref.isWhole_whole _) arg2 harg2
      (Memref.whole cc0_scratch0) (Memref.isWhole_whole _) (Memref.whole cc0_scratch1) (Memref.isWhole_whole _)
      (Memref.whole cc0_scratch2) (Memref.isWhole_whole _) cc0_scratch3 cc0_scratch4 where
  inv k _ := inv c fa fs arg2 k
  step k _ := trip c fa fs arg2 harg2 k

end Out

end Cert.KernelIdeal.Run

end

end
-- ==== Proof.Body.lean ====
/-
  THE BODY: the prologue issues the scribbles' copy and the first twelve blocks, the selection is computed and stored,
  the loop runs.
-/
module

public import proofs.«01_k».proof.Proof.Trip
public import Idealize.ShloMosaic.Lib.VecWindow

@[expose] public section

noncomputable section

namespace Cert.KernelIdeal.Run

open Cert.KernelIdeal.Gen
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev scrM : Memref sig .tc .hbm S2x8x128x128 .f32 := Memref.whole main_arg1
abbrev rawM : Memref sig .tc .vmem S2x8x16384 .f32 := Memref.whole cc0_scratch1

/-- The cell of the scribbles' copy. -/
abbrev cellM : SemLoc sig := SemLoc.dma cc0_scratch4.sem

/-! ## The first twelve issues -/

/-- The issue of block `n` into slot `n`. -/
def issue (n : Fin 12) : Sem.Prog (TpuEff nD τ sig (Elt F) Λ₀ .tc) PUnit :=
  Prog.lift (.enqueueDma (blkM ⟨n.val, by have := n.isLt; omega⟩) (.here (slotM n)) (.dma (semK n))
    ((View.wordExact_bits rfl).reshape _ _) ((View.wordExact_bits rfl).reshape _ _) ⟨Or.inl rfl, trivial⟩)

theorem issue_congr (n : Fin 12) {src : Memref sig .tc .hbm S2x16x16384 .f32} {tgt : Memref sig .tc .vmem S2x16x16384 .f32} {sem : DmaSem sig}
    (e1 : src = blkM ⟨n.val, by have := n.isLt; omega⟩) (e2 : tgt = slotM n) (e3 : sem = semK n) (h1 h2 h3) :
    (Prog.lift (.enqueueDma src (.here tgt) (.dma sem) h1 h2 h3) : Sem.Prog (TpuEff nD τ sig (Elt F) Λ₀ .tc) PUnit) = issue n := by
  subst e1 e2 e3; rfl

/-- An issue, as the program spells it. -/
theorem issue_of (n : Fin 12) {o1 : Fin 1 → ℕ} (e1 : o1 = ![n.val]) {o2 o3 : Fin 4 → ℕ} (e2 : o2 = ![n.val, 0, 0, 0])
    (e3 : o3 = ![0, n.val / 16, 16 * (n.val % 16), 0]) (h1 h2 h3 h4 h5 h6 h7 h8 h9 h10) (h11 : S1.Squeezes S_) (h12 h13 h14) :
    (Prog.lift (.enqueueDma
      ((((Memref.whole main_arg0).reshape S2x2x256x16384 h1 h2 h3).slice
      (Rect.unit (s := S2x2x256x16384) o3 S2x1x16x16384.size h4) h5).squeeze S2x16x16384 h6)
      (.here (((Memref.whole cc0_scratch0).slice (Rect.unit (s := S12x2x16x16384) o2 S1x2x16x16384.size h7) h8).squeeze S2x16x16384 h9))
      (.dma ((cc0_scratch3.slice (Rect.unit (s := S12) o1 S1.size h10)).squeeze S_ h11).sem) h12 h13 h14)
      : Sem.Prog (TpuEff nD τ sig (Elt F) Λ₀ .tc) PUnit) = issue n :=
  issue_congr n (blk_of _ e3 _ _ _ _ _ _) (slot_of n e2 _ _ _) (sem_of n e1 _ _) _ _ _

section Run

variable (c : Dev nD) (fa : FeatB (F := F) c)
  (fb : Buf (Elt F) ((Memref.whole main_arg1 : Memref sig .tc .hbm S2x8x128x128 .f32).view.loc (c : Thread nD τ)))
  (arg2 : Memref sig .tc .vmem S2x16x16x8 .f32) (harg2 : arg2.IsWhole)

/-- The slots that hold their first block once `n` blocks are issued. -/
def pre (n : ℕ) (j : Fin 12) : Option (Fin 32) := if j.val < n then some ⟨j.val, by have := j.isLt; omega⟩ else none

/-- The ring once `n` blocks are issued. -/
def P (n : ℕ) : sProp 𝕄 := iprop(Ring.AtW (slotΦ c fa) (pre n) ∗ (∃ W, owes (c : Thread nD τ) 0 W))

theorem pre_self (n : Fin 12) : pre n.val n = none := by unfold pre; rw [if_neg (lt_irrefl _)]

theorem pre_succ (n : Fin 12) : Function.update (pre n.val) n (some ⟨n.val, by have := n.isLt; omega⟩) = pre (n.val + 1) := by
  funext j
  by_cases hj : j = n
  · subst hj; rw [Function.update_self]; unfold pre; rw [if_pos (Nat.lt_succ_self _)]
  · have : j.val ≠ n.val := fun h => hj (Fin.ext h)
    rw [Function.update_of_ne hj]; unfold pre
    by_cases h : j.val < n.val
    · rw [if_pos h, if_pos (by omega)]
    · rw [if_neg h, if_neg (by omega)]

/-- The ring before the first trip: the first twelve blocks are on their way. -/
theorem st_zero : st 0 = pre (((11 : Fin 12) : ℕ) + 1) := by
  funext j
  have := j.isLt
  have e : 0 + (j.val + 12 - 0 % 12) % 12 = j.val := by omega
  unfold st pre
  simp only [e]
  rw [dif_pos (by omega), if_pos (by show j.val < 12; omega)]

/-- The ring after the last trip: every slot is free. -/
theorem st_last : st 32 = fun _ => none := by
  funext j
  unfold st
  rw [dif_neg (by omega)]

theorem issue_step (n : Fin 12) :
    P c fa n.val ⊢ wp frame (wpE (defs₀ (F := F)) Variants.none c none) Set.univ (issue (F := F) n) (fun _ => P c fa (n.val + 1)) := by
  unfold P
  rw [Ring.AtW_focus (slotΦ c fa) (pre n.val) n, pre_self]
  show iprop((free c fa n ∗ _) ∗ _) ⊢ _
  iintro ⟨⟨⟨Hs, ⟨%f, Hd⟩, Ht⟩, Hrest⟩, ⟨%W, HW⟩⟩
  unfold issue
  sl_exec
  sl_step
  isplitr [HW]
  · rw [← pre_succ n]
    iapply (show iprop(inflight c fa n ⟨n.val, _⟩ ∗ Ring.restW (slotΦ c fa) (pre n.val) n) ⊢ _ from
        Ring.AtW_update (slotΦ c fa) (pre n.val) n (some ⟨n.val, _⟩))
    isplitr [Hrest]
    · isplitl [Hs]
      · iexists f; iexact Hs
      · iexact Ht
    · iexact Hrest
  · iexists W; iexact HW

/-- One issue and what follows it. -/
theorem issue_then (n : Fin 12) (Q : PUnit → sProp 𝕄) :
    iprop(P c fa n.val ∗ (P c fa (n.val + 1) -∗ Q ⟨⟩))
      ⊢ wp frame (wpE (defs₀ (F := F)) Variants.none c none) Set.univ (issue (F := F) n) Q := by
  iintro ⟨HP, HK⟩
  iapply (wp_wand_r frame _ _)
  isplitl [HP]
  · iapply (issue_step c fa n); iexact HP
  · iintro %x HP; iapply HK; iexact HP

/-! ## The prologue's parts -/

/-- The scribbles in the layout the kernel copies them in. -/
abbrev scrR : Memref sig .tc .hbm S2x8x16384 .f32 :=
  scrM.reshape S2x8x16384 reshapes_S2x8x128x128_S2x8x16384.1 reshapes_S2x8x128x128_S2x8x16384.2 (Memref.isWhole_whole _).contiguous

/-- The scribbles' copy. -/
def copyScr : Sem.Prog (TpuEff nD τ sig (Elt F) Λ₀ .tc) PUnit :=
  Prog.lift (.enqueueDma scrR (.here rawM) (.dma cc0_scratch4.sem)
    ((Memref.isWhole_whole main_arg1).wordExact.reshape _ _) (Memref.isWhole_whole cc0_scratch1).wordExact ⟨Or.inl rfl, trivial⟩)

/-- The wait for it, the scribbles' load and what is computed from them for the selection. -/
def readScr : Sem.Prog (TpuEff nD τ sig (Elt F) Λ₀ .tc)
    (Σ' (v102 : FVec F S2x8x16384 .f32) (v104 : FVec F S2x8x1 .f32) (v105 : IVec S2x8x16384 32) (v109 : IVec S2x8x16384 1), IVec S2x8x16384 32) := do
  Prog.lift (.waitDma2 cc0_scratch4.sem scrR rawM ((Memref.isWhole_whole main_arg1).wordExact.reshape _ _) (Memref.isWhole_whole cc0_scratch1).wordExact)
  let v98 : Vec F S2x8x16384 .f32 ← Prog.lift (.load rawM (Rect.unit (s := S2x8x16384) ![0, 0, 0] S2x8x16384.size inb_S2x8x16384_S2x8x16384_0_0_0).toLoadRect (View.loadsAt_vmem h_S2x8x16384))
  pure ⟨k0_pay3 v98, k0_pay4 v98, iota .tc S2x8x16384 32 [2] iota_S2x8x16384_d2_w32, k0_pay5 v98, k0_pay6⟩

theorem part2_eq : k0_part2 (F := F) (Memref.whole main_arg0) (Memref.isWhole_whole _) (Memref.whole main_arg1) (Memref.isWhole_whole _) arg2 harg2
      (Memref.whole cc0_scratch0) (Memref.isWhole_whole _) (Memref.whole cc0_scratch1) (Memref.isWhole_whole _)
      (Memref.whole cc0_scratch2) (Memref.isWhole_whole _) cc0_scratch3 cc0_scratch4
    = copyScr >>= fun _ => issue 0 >>= fun _ => issue 1 >>= fun _ => issue 2 >>= fun _ => pure ⟨⟩ :=
  by rw [k0_part2_eq_skeleton]; rfl

theorem part3_eq : k0_part3 (F := F) (Memref.whole main_arg0) (Memref.isWhole_whole _) (Memref.whole main_arg1) (Memref.isWhole_whole _) arg2 harg2
      (Memref.whole cc0_scratch0) (Memref.isWhole_whole _) (Memref.whole cc0_scratch1) (Memref.isWhole_whole _)
      (Memref.whole cc0_scratch2) (Memref.isWhole_whole _) cc0_scratch3 cc0_scratch4
    = issue 3 >>= fun _ => issue 4 >>= fun _ => issue 5 >>= fun _ => pure ⟨⟩ :=
  by rw [k0_part3_eq_skeleton]; rfl

theorem part4_eq : k0_part4 (F := F) (Memref.whole main_arg0) (Memref.isWhole_whole _) (Memref.whole main_arg1) (Memref.isWhole_whole _) arg2 harg2
      (Memref.whole cc0_scratch0) (Memref.isWhole_whole _) (Memref.whole cc0_scratch1) (Memref.isWhole_whole _)
      (Memref.whole cc0_scratch2) (Memref.isWhole_whole _) cc0_scratch3 cc0_scratch4
    = issue 6 >>= fun _ => issue 7 >>= fun _ => issue 8 >>= fun _ => pure ⟨⟩ :=
  by rw [k0_part4_eq_skeleton]; rfl

theorem part5_eq : k0_part5 (F := F) (Memref.whole main_arg0) (Memref.isWhole_whole _) (Memref.whole main_arg1) (Memref.isWhole_whole _) arg2 harg2
      (Memref.whole cc0_scratch0) (Memref.isWhole_whole _) (Memref.whole cc0_scratch1) (Memref.isWhole_whole _)
      (Memref.whole cc0_scratch2) (Memref.isWhole_whole _) cc0_scratch3 cc0_scratch4
    = issue 9 >>= fun _ => issue 10 >>= fun _ => issue 11 >>= fun _ => readScr :=
  by rw [k0_part5_eq_skeleton]; rfl

/-- The scribbles as the kernel reads them. -/
abbrev scrV : S2x8x16384.Idx → Elt F .f32 := ReadAs.same.apply (scrR.view.read (Elt F) fb)

/-- The selection the kernel stores, of the scribbles it read. -/
def selOf (m : Vec F S2x8x16384 .f32) : FVec F S2x8x16384 .f32 :=
  k0_pay1 (k0_pay3 m) (k0_pay4 m) (iota .tc S2x8x16384 32 [2] iota_S2x8x16384_d2_w32) (k0_pay5 m) k0_pay6

/-- The selection stored whole reads back as what was stored. -/
theorem sel_stored (fs) (v : FVec F S2x8x16384 .f32) (hh) :
    (selM.view.loc (c : Thread nD τ) ↦[selM.view.set]{fullShare} selM.view.writes (Elt F) fs
      [⟨Rect.unit (s := S2x8x16384) ![0, 0, 0] S2x8x16384.size hh, v⟩] : sProp 𝕄)
      ⊢ iprop(∃ g, selP c g ∗ ⌜selM.view.read (Elt F) g = v⌝) := by
  iintro H
  iexists _
  isplitl [H]
  · iexact H
  · ipureintro
    exact View.read_writes_full ..

/-- What the body leaves: the slots free, the scribbles as they were, the output at the kernel's value. -/
def bodyPost : sProp 𝕄 :=
  iprop(Ring.AtW (slotΦ c fa) (fun _ => none)
      ∗ semVal ((c : Thread nD τ), cellM) 0
      ∗ (scrM.view.loc (c : Thread nD τ) ↦[scrM.view.set]{fullShare} fb)
      ∗ (∃ fr, rawM.view.loc (c : Thread nD τ) ↦[rawM.view.set]{fullShare} fr)
      ∗ (∃ fs, selP c fs)
      ∗ (∃ fo, (arg2.view.loc (c : Thread nD τ) ↦[arg2.view.set]{fullShare} fo)
        ∗ ⌜arg2.view.read (Elt F) fo = outV (blkV c fa) (selOf (scrV c fb))⌝)
      ∗ (∃ W, owes (c : Thread nD τ) 0 W))

/-- THE BODY: from the slots free and the buffers at anything, the kernel ends in `bodyPost`. -/
theorem body (fs fr fo) :
    iprop(P c fa 0
      ∗ semVal ((c : Thread nD τ), cellM) 0
      ∗ (scrM.view.loc (c : Thread nD τ) ↦[scrM.view.set]{fullShare} fb)
      ∗ (rawM.view.loc (c : Thread nD τ) ↦[rawM.view.set]{fullShare} fr)
      ∗ selP c fs
      ∗ (arg2.view.loc (c : Thread nD τ) ↦[arg2.view.set]{fullShare} fo))
      ⊢ wp frame (wpE (defs₀ (F := F)) Variants.none c none) Set.univ
          (cc0__fused_kernel (F := F) (Memref.whole main_arg0) (Memref.isWhole_whole _) (Memref.whole main_arg1) (Memref.isWhole_whole _) arg2 harg2
            (Memref.whole cc0_scratch0) (Memref.isWhole_whole _) (Memref.whole cc0_scratch1) (Memref.isWhole_whole _)
            (Memref.whole cc0_scratch2) (Memref.isWhole_whole _) cc0_scratch3 cc0_scratch4)
          (fun _ => bodyPost c fa fb arg2) := by
  iintro ⟨HP, HsM, Hb, Hm, H5, H2⟩
  rw [cc0__fused_kernel_eq_skeleton]
  unfold cc0__fused_kernel_skel
  rw [part2_eq, part3_eq, part4_eq, part5_eq]
  unfold P copyScr scrR scrM rawM
  icases HP with ⟨HR, ⟨%W, HW⟩⟩
  sl_exec
  ihave HP := (show iprop(Ring.AtW (slotΦ c fa) (pre 0) ∗ owes (c : Thread nD τ) 0 W) ⊢ P c fa 0 from by
    unfold P; iintro ⟨HR, HW⟩; isplitl [HR]; · iexact HR
    iexists W; iexact HW) $$ [HR HW]
  · isplitl [HR]; · iexact HR
    iexact HW
  iterate 11
    iapply (issue_then c fa _ _)
    isplitl [HP]; · iexact HP
    iintro HP
    sl_exec
  iapply (issue_then c fa _ _)
  isplitl [HP]; · iexact HP
  iintro HP
  ihave HP := (show P c fa (((11 : Fin 12) : ℕ) + 1) ⊢ iprop(Ring.AtW (slotΦ c fa) (st 0) ∗ (∃ W, owes (c : Thread nD τ) 0 W)) from
    Entails.of_eq (by unfold P; rw [st_zero])) $$ HP
  icases HP with ⟨HR, ⟨%W', HW⟩⟩
  unfold readScr
  generalize hL : Scf.Loop.for k0_t1_loop _ _ _ = L
  sl_exec
  subst hL
  ihave H5 := (sel_stored c fs _ _) $$ H5
  icases H5 with ⟨%g, H5, %hg⟩
  have hd : Done c fa g arg2 0 fo := fun y hy => absurd hy (Nat.not_lt_zero _)
  sl_exec
  have e32 : Scf.trips k0_t1_loop.lb k0_t1_loop.ub k0_t1_loop.st = 32 := rfl
  sl_step
  have hv : selM.view.read (Elt F) g = selOf (scrV c fb) := hg.trans (congrArg selOf (by
    unfold body.sl.v98 View.readCov
    exact (View.readAt_full (s := S2x8x16384) _ _ _).trans (View.read_writes_whole _ _ _)))
  ihave HR := (show Ring.AtW (slotΦ c fa) (st (Scf.trips k0_t1_loop.lb k0_t1_loop.ub k0_t1_loop.st))
    ⊢ Ring.AtW (slotΦ c fa) (fun _ => none) from Entails.of_eq (by rw [e32, st_last])) $$ HR
  unfold bodyPost
  isplitl [HR]; · iexact HR
  isplitl [HsM]; · iexact HsM
  isplitl [Hb]; · iexact Hb
  isplitl [Hm]; · iexists _; iexact Hm
  isplitl [H5]; · iexists _; iexact H5
  isplitl [H2]
  · iexists _
    isplitl [H2]; · iexact H2
    · ipureintro
      funext y
      rw [← hv]
      exact hL3 y (by rw [e32]; exact (blkOf y).isLt)
  · iexists _; iexact HW

end Run

end Cert.KernelIdeal.Run

end

end
-- ==== Proof.Launch.lean ====
/-
  THE LAUNCH: what the launch hands the body (the buffers, the counters at zero, the arguments), cut into the ring's
  slots and the features' shares; the body's obligation; the run of the whole program.
-/
module

public import proofs.«01_k».proof.Proof.Body
public import proofs.«01_k».proof.Proof.Gen.KernelIdeal.Frame

@[expose] public section

noncomputable section

namespace Cert.KernelIdeal.Run

open Cert.KernelIdeal.Gen
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The ring as its slots -/

/-- Slot `n`'s entries of the ring. -/
abbrev slotSet (n : Fin 12) : Finset S12x2x16x16384.Idx := (slotM n).view.set

/-- A ring entry lies in the slot its first coordinate names. -/
theorem mem_slot (n : Fin 12) (x : S12x2x16x16384.Idx) : x ∈ slotSet n ↔ (x 0).val = n.val := by
  have e : slotSet n = (rectS n).set := (slot_set n).trans Finset.map_refl
  rw [e, Rect.mem_set_unit]
  constructor
  · intro h
    have h0 : n.val ≤ (x 0).val ∧ (x 0).val < n.val + 1 := h 0
    omega
  · intro h a
    match a with
    | ⟨0, _⟩ => exact (⟨h.ge, by rw [h]; exact Nat.lt_succ_self _⟩ : n.val ≤ (x 0).val ∧ (x 0).val < n.val + 1)
    | ⟨1, _⟩ => exact ⟨Nat.zero_le _, (Nat.zero_add _).symm ▸ (x 1).isLt⟩
    | ⟨2, _⟩ => exact ⟨Nat.zero_le _, (Nat.zero_add _).symm ▸ (x 2).isLt⟩
    | ⟨3, _⟩ => exact ⟨Nat.zero_le _, (Nat.zero_add _).symm ▸ (x 3).isLt⟩

theorem slots_disjoint (n n' : Fin 12) (h : n ≠ n') : Disjoint (slotSet n) (slotSet n') := by
  rw [Finset.disjoint_left]
  intro x hx hx'
  exact h (Fin.ext (((mem_slot n x).mp hx).symm.trans ((mem_slot n' x).mp hx')))

theorem slots_cover : (Finset.univ.biUnion slotSet) = Finset.univ := by
  ext x
  simp only [Finset.mem_biUnion, Finset.mem_univ, true_and, iff_true]
  exact ⟨x 0, (mem_slot _ x).mpr rfl⟩

variable (c : Dev nD)

/-- The ring whole at anything is its slots at anything, -/
theorem ring_split :
    iprop(∃ f, (ringM.view.loc (c : Thread nD τ) ↦{fullShare} f : sProp 𝕄))
      ⊢ bigSep Finset.univ fun n : Fin 12 => iprop(∃ f, (slotM n).view.loc (c : Thread nD τ) ↦[(slotM n).view.set]{fullShare} f) := by
  refine sProp.exists_elim fun f => ?_
  refine (Entails.of_eq (Ring.pointsTo_blocks (ℓ := ringM.view.loc (c : Thread nD τ)) slotSet slots_disjoint slots_cover f)).trans ?_
  exact bigSep_mono fun n _ => sProp.exists_intro (Φ := fun f => (ringM.view.loc (c : Thread nD τ) ↦[slotSet n]{fullShare} f : sProp 𝕄)) f

/-- and back. -/
theorem ring_join :
    (bigSep Finset.univ fun n : Fin 12 => iprop(∃ f, (slotM n).view.loc (c : Thread nD τ) ↦[(slotM n).view.set]{fullShare} f))
      ⊢ iprop(∃ f, (ringM.view.loc (c : Thread nD τ) ↦{fullShare} f : sProp 𝕄)) :=
  Ring.pointsTo_blocks_join_exists (ℓ := ringM.view.loc (c : Thread nD τ)) slotSet slots_disjoint slots_cover (ringM.view.junk (Val := Elt F))

/-! ## The cells -/

/-- The kernel's own cells: the twelve slots' and the scribbles' one. -/
abbrev osem0 : Fin 13 → SemLoc sig := fun j => SemLoc.dma ⟨j.val + 1, by have := j.isLt; show j.val + 1 < 14; omega⟩

theorem ownSemFacts0 : Pipeline.OwnSemFacts spec0 osem0 := by decide

theorem cells_eq :
    (Pipeline.ownSems0 (Ix := Unit) (Name := ℕ) (U := Pipeline.UD sig nD τ) (Lvl := ℕ) (Val := Elt F) (τ := τ) osem0 c : sProp 𝕄)
      = iprop((bigSep Finset.univ fun n : Fin 12 => semVal ((c : Thread nD τ), cellK n) 0) ∗ semVal ((c : Thread nD τ), cellM) 0) := by
  unfold Pipeline.ownSems0
  rw [Fin.univ_castSuccEmb, Finset.cons_eq_insert, bigSep_insert, bigSep_map]
  · exact BI.equiv_iff.mp ⟨sep_comm, sep_comm⟩
  · simp only [Finset.mem_map, Finset.mem_univ, true_and, not_exists]
    exact fun x => (Fin.castSucc_lt_last x).ne

/-- A whole buffer held by its view is the buffer held. -/
theorem whole_pts (b : Ref sig .tc) (q : PosShare TreeShare) (f : Buf (Elt F) ((c : Thread nD τ).loc b)) :
    (((Memref.whole b).view.loc (c : Thread nD τ) ↦[(Memref.whole b).view.set]{q} f) : sProp 𝕄)
      = ((Memref.whole b).view.loc (c : Thread nD τ) ↦{q} f) :=
  congrArg (fun S => (((c : Thread nD τ).loc b ↦[S]{q} f) : sProp 𝕄)) (View.set_whole b)

/-! ## The slots all free -/

/-- The features array whole, at the full share. -/
abbrev featP (fa : FeatB (F := F) c) : sProp 𝕄 :=
  (Memref.whole main_arg0 : Memref sig .tc .hbm S2x2x256x128x128 .f32).view.loc (c : Thread nD τ) ↦{fullShare} fa
/-- What is left of it with a share apart for each slot. -/
abbrev featRest (fa : FeatB (F := F) c) : sProp 𝕄 :=
  (Memref.whole main_arg0 : Memref sig .tc .hbm S2x2x256x128x128 .f32).view.loc (c : Thread nD τ) ↦{Transfers.shareDrop fullShare 12} fa

theorem free_all (fa : FeatB (F := F) c) :
    Ring.AtW (slotΦ c fa) (fun _ => none)
      = iprop((bigSep Finset.univ fun n : Fin 12 => semVal ((c : Thread nD τ), cellK n) 0)
          ∗ (bigSep Finset.univ fun n : Fin 12 => iprop(∃ f, (slotM n).view.loc (c : Thread nD τ) ↦[(slotM n).view.set]{fullShare} f))
          ∗ (bigSep Finset.univ fun n : Fin 12 => tokA c fa n Finset.univ)) := by
  exact (BI.bigSep_sep _ _ _).trans (congrArg (BI.sep _) (BI.bigSep_sep _ _ _))

/-- The cells at zero, the ring at anything and the features are the slots all free and the rest of the features; -/
theorem slots_in (fa : FeatB (F := F) c) :
    iprop((bigSep Finset.univ fun n : Fin 12 => semVal ((c : Thread nD τ), cellK n) 0)
        ∗ (∃ f, (ringM.view.loc (c : Thread nD τ) ↦{fullShare} f : sProp 𝕄)) ∗ featP c fa)
      ⊢ iprop(Ring.AtW (slotΦ c fa) (fun _ => none) ∗ featRest c fa) := by
  rw [free_all]
  iintro ⟨Hs, Hr, Hf⟩
  ihave Hr := (ring_split c) $$ Hr
  ihave Hf := (Transfers.pointsTo_toks_split fullShare 12) $$ Hf
  icases Hf with ⟨Hf0, Hf⟩
  isplitr [Hf0]
  · isplitl [Hs]; · iexact Hs
    isplitl [Hr]; · iexact Hr
    iexact Hf
  · iexact Hf0

/-- and back. -/
theorem slots_out (fa : FeatB (F := F) c) :
    iprop(Ring.AtW (slotΦ c fa) (fun _ => none) ∗ featRest c fa)
      ⊢ iprop((bigSep Finset.univ fun n : Fin 12 => semVal ((c : Thread nD τ), cellK n) 0)
        ∗ (∃ f, (ringM.view.loc (c : Thread nD τ) ↦{fullShare} f : sProp 𝕄)) ∗ featP c fa) := by
  rw [free_all]
  iintro ⟨⟨Hs, Hr, Hf⟩, Hf0⟩
  ihave Hr := (ring_join c) $$ Hr
  isplitl [Hs]; · iexact Hs
  isplitl [Hr]; · iexact Hr
  iapply (Transfers.pointsTo_toks_join fullShare 12)
  isplitl [Hf0]; · iexact Hf0
  iexact Hf

/-! ## The proof data -/

variable (m : (ℓ : Loc nD τ sig) → Buf (Elt F) ℓ) (ρ : Dev nD → PrngReg)

/-- The arguments the body's transfers read. -/
def H0 : Finset (Ref sig .tc) := {main_arg0, main_arg1}
theorem H0_sub : H0 ⊆ Pipeline.restRefs sig spec0 := by decide

theorem args_eq :
    (bigSep H0 (fun b => ((c : Thread nD τ).loc b) ↦{fullShare} V m c b) : sProp 𝕄)
      = iprop(featP c (V m c main_arg0) ∗ (scrM.view.loc (c : Thread nD τ) ↦{fullShare} V m c main_arg1)) := by
  rw [BI.bigSep_eq_bigSepL_of_eq [main_arg0, main_arg1] (by decide) (by decide)]; rfl

/-- What the call leaves in its output array. -/
def outK : S2x16x16x8.Idx → Elt F .f32 := outV (blkV c (V m c main_arg0)) (selOf (scrV c (V m c main_arg1)))

/-- The proof data of the one pipeline: its one result at `outK`. -/
def dats (_ : Fin 1) (c : Dev nD) : Dat τ (Elt F) Unit ℕ (Pipeline.UD sig nD τ) ℕ cfg0 c where
  A w := V m c (Pipeline.arrRef spec0 w)
  after w t := match w with
    | ⟨0, _⟩ => outK c m
  Φ _ := Pipeline.ΦD osem0 spec0 H0 (V m) c
  q _ := fullShare
  owed _ := 0

theorem A_eq (w : Fin cfg0.W) : (dats m 0 c).A w = V m c (Pipeline.arrRef spec0 w) := by dsimp only [dats]

abbrev stg (t : Fin cfg0.N) : Memref sig .tc .vmem S2x16x16x8 .f32 := win0_0.stage (cfg0.slots t 0)

theorem sound_body (t : Fin cfg0.N) :
    iprop((dats m 0 c).Φ t.castSucc ∗ (dats m 0 c).owesAt () t.castSucc
        ∗ (∃ d, owns (c : Thread nD τ) (stg t) fullShare ((dats m 0 c).before 0 t d)))
      ⊢ wp frame (wpE (defs₀ (F := F)) Variants.none c none) Set.univ (bodyAt0 t)
        (fun _ => iprop((dats m 0 c).Φ t.succ ∗ (dats m 0 c).owesAt () t.succ
          ∗ owns (c : Thread nD τ) (stg t) fullShare ((dats m 0 c).after 0 t))) := by
  rw [show (dats m 0 c).Φ t.succ = (dats m 0 c).Φ t.castSucc from rfl, show (dats m 0 c).after 0 t = outK c m from rfl,
    show (dats m 0 c).Φ t.castSucc = Pipeline.ΦD osem0 spec0 H0 (V m) c from rfl, Pipeline.ΦD_eq, scopedRest0_eq, cells_eq, args_eq]
  unfold Dat.owesAt Pipeline.owesWithin owns bodyAt0
  rw [show (dats m 0 c).owed t.castSucc = 0 from rfl, show (dats m 0 c).owed t.succ = 0 from rfl]
  iintro ⟨⟨⟨Hr, ⟨%fr, Hm⟩, ⟨%fs, H5⟩⟩, Hg, ⟨Hs, HsM⟩, ⟨Hf, Hb⟩⟩, ⟨%W, -, HW⟩, ⟨%d0, %fo, -, H2⟩⟩
  ihave Hx := (slots_in c (V m c main_arg0)) $$ [Hs Hr Hf]
  · isplitl [Hs]; · iexact Hs
    isplitl [Hr]; · iexact Hr
    iexact Hf
  icases Hx with ⟨HR, Hf0⟩
  iapply (wp_wand_r frame _ _)
  isplitr [Hf0 Hg]
  · iapply (body c (V m c main_arg0) (V m c main_arg1) (stg t) (hstage0_0 0) fs fr fo)
    isplitl [HR HW]
    · unfold P
      isplitl [HR]
      · iapply (show Ring.AtW (slotΦ c (V m c main_arg0)) (fun _ => none) ⊢ Ring.AtW (slotΦ c (V m c main_arg0)) (pre 0) from
          Entails.of_eq (congrArg (Ring.AtW (slotΦ c (V m c main_arg0))) (funext fun j => (if_neg (Nat.not_lt_zero _)).symm)))
        iexact HR
      · iexists W; iexact HW
    isplitl [HsM]; · iexact HsM
    isplitl [Hb]; · iapply (Entails.of_eq (whole_pts c main_arg1 fullShare (V m c main_arg1)).symm); iexact Hb
    isplitl [Hm]; · iapply (Entails.of_eq (whole_pts c cc0_scratch1 fullShare fr).symm); iexact Hm
    isplitl [H5]; · iapply (Entails.of_eq (whole_pts c cc0_scratch2 fullShare fs).symm); iexact H5
    iexact H2
  iintro %u Hp
  unfold bodyPost
  icases Hp with ⟨HR, HsM, Hb, ⟨%fr', Hm⟩, ⟨%fs', H5⟩, ⟨%fo', H2, %ho⟩, ⟨%W', HW⟩⟩
  ihave Hx := (slots_out c (V m c main_arg0)) $$ [HR Hf0]
  · isplitl [HR]; · iexact HR
    iexact Hf0
  icases Hx with ⟨Hs, Hr, Hf⟩
  isplitl [Hs Hr Hf HsM Hb Hm H5 Hg]
  · isplitl [Hr Hm H5]
    · isplitl [Hr]; · iexact Hr
      isplitl [Hm]
      · iexists fr'; iapply (Entails.of_eq (whole_pts c cc0_scratch1 fullShare fr')); iexact Hm
      iexists fs'; iapply (Entails.of_eq (whole_pts c cc0_scratch2 fullShare fs')); iexact H5
    isplitl [Hg]; · iexact Hg
    isplitl [Hs HsM]
    · isplitl [Hs]; · iexact Hs
      iexact HsM
    isplitl [Hf]; · iexact Hf
    iapply (Entails.of_eq (whole_pts c main_arg1 fullShare (V m c main_arg1))); iexact Hb
  isplitl [HW]
  · iexists W'; isplitr; · ipureintro; exact fun _ _ => Or.inl trivial
    iexact HW
  iexists fo'; isplitr
  · ipureintro; exact ho
  · iexact H2

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body c m t) rfl .rfl fun _ => .rfl

/-! ## The run -/

theorem hmainD (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall]) (by simp only [List.Forall]) main_chain

/-- The host lines after the call touch neither argument the call reads by itself. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  rw [List.mem_singleton] at hops; subst hops
  refine Pipeline.sub_tailRefsBut _ _ _ op (List.forall_iff_forall_mem.mp hostOps1_sub op hop) (fun k => k.elim0) ?_
  intro b hb
  have hall : (hostOps1 : List (HloOp τ sig (Elt F))).Forall fun op => Proc.devRef .tc b ∉ op.bufs := by
    simp only [H0, Finset.mem_insert, Finset.mem_singleton] at hb
    rcases hb with rfl | rfl
    all_goals
      simp only [hostOps1, List.Forall, StableHlo.unary_bufs, StableHlo.reshape_bufs]
      repeat' apply And.intro
      all_goals decide
  exact List.forall_iff_forall_mem.mp hall op hop

set_option backward.isDefEq.respectTransparency.types false in
/-- THE RUN: every execution ends, the arrays at the proof data's final contents, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation c m).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := fun c => A_eq c m) (hin := fun _ => .rfl) (hout := fun _ => .rfl)

end Cert.KernelIdeal.Run

end

end
-- ==== Proof.Whole.lean ====
/-
  WHAT THE PROGRAM ENDS WITH: the call's output array at `outK`, the result array at it transposed and reshaped, every
  argument as launched, every counter at zero.
-/
module

public import proofs.«01_k».proof.Proof.Launch
public import Idealize.ShloMosaic.Lib.Pipeline.ValueKit.Geometry

@[expose] public section

noncomputable section

namespace Cert.KernelIdeal.Run

open Cert.KernelIdeal.Gen
open Idealize.ShloMosaic Idealize.ShloMosaic.TcCoe Idealize.ShloMosaic.Tactic
open Idealize.ShloMosaic.ValueIdx (ix3 ix4)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (m : (ℓ : Loc nD τ sig) → Buf (Elt F) ℓ) (ρ : Dev nD → PrngReg)

/-- The call's output array ends at what the body left: its one block is the whole array, written back once. -/
theorem final_out : (dats m 0 c).arrAt (0 : Fin cfg0.W) cfg0.N = outK c m :=
  (dats m 0 c).arrAt_eq_of_after_last (0 : Fin cfg0.W) ⟨0, by decide⟩ (by decide +kernel) (outK c m) (fun j => rfl)

/-- The host lines after the call, of any output array: its channels together, chunk after chunk, and a unit axis put in. -/
def hostV (x : S2x16x16x8.Idx → Elt F .f32) : S2x1x8x256.Idx → Elt F .f32 :=
  broadcastInDim S2x1x8x256 ![0, 2, 3] bcast_S2x8x256_S2x1x8x256_0_2_3
    (shapeCast S2x8x256 (transpose S2x8x16x16 [0, 3, 1, 2] x transposes_S2x16x16x8_S2x8x16x16_0_3_1_2)
      shapeCasts_S2x8x16x16_S2x8x256)

/-- The host lines compute it of what the output array holds. -/
theorem host_value (V : Valuation τ sig (Elt F)) :
    StableHlo.after (hostOps1 : List (HloOp τ sig (Elt F))) V (Proc.devRef .tc main_v3) = hostV (V (Proc.devRef .tc main_v0)) := by
  unfold hostV
  after_results <;> rfl

/-- The result: that of what the call leaves. -/
def resK : S2x1x8x256.Idx → Elt F .f32 := hostV (outK c m)

/-- What an argument holds at the end: no host line writes it, and it is no array of the call's window. -/
theorem tail_keeps (b : Ref sig .tc) (h1 : b ≠ main_v1) (h2 : b ≠ main_v2) (h3 : b ≠ main_v3) (h0 : b ≠ main_v0) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall,
        StableHlo.unary_writes, StableHlo.reshape_writes, Finset.mem_singleton]
      exact ⟨StableHlo.devRef_ne_of_ne h1, StableHlo.devRef_ne_of_ne h2, StableHlo.devRef_ne_of_ne h3⟩)),
    Pipeline.withArrays_of_ne _ c (V0 m c) _ b (fun w => by
      rw [Subsingleton.elim w 0]; exact h0.symm)]
  rfl

/-- What the result array holds at the end. -/
theorem tail_result :
    Pipeline.afterTail₀ cfgs (dats m) 0 (V0 m) [hostOps1] c main_v3 = resK c m := by
  have hw : Pipeline.withArrays spec0 c (V0 m c) (fun w => (dats m 0 c).arrAt w cfg0.N) (Proc.devRef .tc main_v0) = outK c m :=
    (Pipeline.withArrays_arr spec0 (fun a b _ => Subsingleton.elim a b) c (V0 m c) _ 0).trans (final_out c m)
  unfold Pipeline.afterTail₀ resK
  rw [← hw]
  exact host_value _

/-- THE RUN, READ: the result, the arguments and the counters. -/
theorem run_read : θ_run defs (onTc (τ := τ) (main (F := F))) (s₀ m ρ)
    (fun r => (∀ c : Dev nD, r.2.mem ((c : Thread nD τ).loc main_v3) = resK c m
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) := by
  refine (θ_run defs _ _).mono (fun r h => ⟨fun c => ?_, h.2⟩) (run_main m ρ)
  have keep := fun (b : Ref sig .tc) (hr : b ∈ Pipeline.restRefs sig spec0) (h1 : b ≠ main_v1) (h2 : b ≠ main_v2)
      (h3 : b ≠ main_v3) (h0 : b ≠ main_v0) => ((h.1 c).2 b hr).trans (tail_keeps c m b h1 h2 h3 h0)
  exact ⟨((h.1 c).2 main_v3 (Pipeline.mem_restRefs_of main_v3 (by decide) (by decide))).trans (tail_result c m),
    keep main_arg0 (Pipeline.mem_restRefs_of main_arg0 (by decide) (by decide)) (by decide) (by decide) (by decide) (by decide),
    keep main_arg1 (Pipeline.mem_restRefs_of main_arg1 (by decide) (by decide)) (by decide) (by decide) (by decide) (by decide),
    keep main_arg2 (Pipeline.mem_restRefs_of main_arg2 (by decide) (by decide)) (by decide) (by decide) (by decide) (by decide),
    keep main_arg3 (Pipeline.mem_restRefs_of main_arg3 (by decide) (by decide)) (by decide) (by decide) (by decide) (by decide),
    keep main_arg4 (Pipeline.mem_restRefs_of main_arg4 (by decide) (by decide)) (by decide) (by decide) (by decide) (by decide)⟩

/-- THE FRAME: the arguments and the counters alone. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run defs _ _).mono (fun _ h => ⟨fun c => (h.1 c).2, h.2⟩) (run_read m ρ)

end Cert.KernelIdeal.Run

end
-- ==== Proof.Reference.lean ====
/-
  THE REFERENCE'S RUN: its operations in order, those of the functions it calls in their places; what the result holds at the
  end, named stage by stage of the two arguments it reads; and its arguments as launched.
-/
module

public import proofs.«01_k».proof.Proof.Gen.ReferenceIdeal
public import Idealize.ShloMosaic.Lib.StableHlo.Run

@[expose] public section

noncomputable section

namespace Cert.ReferenceIdeal.Run

open Cert.ReferenceIdeal.Gen
open Idealize.ShloMosaic Idealize.ShloMosaic.TcCoe Idealize.ShloMosaic.StableHlo
open Idealize.SL Idealize.SL.Sem

variable {F : FTy → Type} [FloatOps F]

/-- The reference's operations, in order. -/
abbrev ops : List (HloOp τ sig (Elt F)) :=
  [ StableHlo.unary main_arg0 main_v0 ((transpose S2x2x128x128x256 [0, 1, 3, 4, 2] · transposes_S2x2x256x128x128_S2x2x128x128x256_0_1_3_4_2) : (⟨S2x2x256x128x128, .f32⟩ : BufTy).Contents (Elt F) → (⟨S2x2x128x128x256, .f32⟩ : BufTy).Contents (Elt F)),
    StableHlo.reshape main_v0 main_v1 (rfl : (.f32 : EltTy) = .f32) shapeCasts_S2x2x128x128x256_S2x2x16384x256,
    StableHlo.reshape main_arg1 main_v2 (rfl : (.f32 : EltTy) = .f32) shapeCasts_S2x8x128x128_S2x8x16384,
    StableHlo.nullary main_cst (constant S_ .f32 0x3F000000#32),
    StableHlo.unary main_cst main_v3 (broadcastInDim S2x8x16384 ![] bcast_S_S2x8x16384 : (⟨S_, .f32⟩ : BufTy).Contents (Elt F) → (⟨S2x8x16384, .f32⟩ : BufTy).Contents (Elt F)),
    StableHlo.binary main_v2 main_v3 main_v4 (cmpf .ogt : (⟨S2x8x16384, .f32⟩ : BufTy).Contents (Elt F) → (⟨S2x8x16384, .f32⟩ : BufTy).Contents (Elt F) → (⟨S2x8x16384, .i1⟩ : BufTy).Contents (Elt F)),
    StableHlo.unary main_v4 main_v5 (uitofp .f32 : (⟨S2x8x16384, .i1⟩ : BufTy).Contents (Elt F) → (⟨S2x8x16384, .f32⟩ : BufTy).Contents (Elt F)),
    StableHlo.nullary main_cst_0 (constant S_ .f32 0x00000000#32),
    StableHlo.binary main_v5 main_cst_0 main_v6 ((fun x v => Host.reduceAdd x v reducesTo_S2x8x16384_S2x8_d2 h_S_) : (⟨S2x8x16384, .f32⟩ : BufTy).Contents (Elt F) → (⟨S_, .f32⟩ : BufTy).Contents (Elt F) → (⟨S2x8, .f32⟩ : BufTy).Contents (Elt F)),
    StableHlo.binary main_v1 main_v5 main_v7 ((fun l r => Host.dotGeneral dot_S2x2x16384x256_S2x8x16384_S2x2x256x8_2_2_03_1_1_0 none l r) : (⟨S2x2x16384x256, .f32⟩ : BufTy).Contents (Elt F) → (⟨S2x8x16384, .f32⟩ : BufTy).Contents (Elt F) → (⟨S2x2x256x8, .f32⟩ : BufTy).Contents (Elt F)),
    StableHlo.unary main_v7 main_v8 ((transpose S2x2x8x256 [1, 0, 3, 2] · transposes_S2x2x256x8_S2x2x8x256_1_0_3_2) : (⟨S2x2x256x8, .f32⟩ : BufTy).Contents (Elt F) → (⟨S2x2x8x256, .f32⟩ : BufTy).Contents (Elt F)),
    StableHlo.nullary main_call0_v0 (iotaInDim S2x8x16384 32 2),
    StableHlo.nullary main_call0_cst (constant S_ .f32 0xFF800000#32),
    StableHlo.nullary main_call0_c (constantI S_ 32 0#32),
    StableHlo.quaternary main_v2 main_call0_v0 main_call0_cst main_call0_c main_call0_v1_0 (fun x y u v j => (Host.argReduce reducer_argmax_f32_i32 x y u v reducesTo_S2x8x16384_S2x8_d2 h_S_ j).1),
    StableHlo.quaternary main_v2 main_call0_v0 main_call0_cst main_call0_c main_v9 (fun x y u v j => (Host.argReduce reducer_argmax_f32_i32 x y u v reducesTo_S2x8x16384_S2x8_d2 h_S_ j).2),
    StableHlo.unary main_v9 main_v10 (broadcastInDim S1x2x8x1 ![1, 2] bcast_S2x8_S1x2x8x1_1_2 : (⟨S2x8, .i32⟩ : BufTy).Contents (Elt F) → (⟨S1x2x8x1, .i32⟩ : BufTy).Contents (Elt F)),
    StableHlo.unary main_v10 main_v11 (broadcastInDim S2x2x8x1 ![0, 1, 2, 3] bcast_S1x2x8x1_S2x2x8x1_0_1_2_3 : (⟨S1x2x8x1, .i32⟩ : BufTy).Contents (Elt F) → (⟨S2x2x8x1, .i32⟩ : BufTy).Contents (Elt F)),
    StableHlo.nullary main_call1_c (constantI S_ 32 0#32),
    StableHlo.unary main_call1_c main_call1_v0 (broadcastInDim S2x2x8x1 ![] bcast_S_S2x2x8x1),
    StableHlo.binary main_v11 main_call1_v0 main_call1_v1 (cmpi .slt),
    StableHlo.nullary main_call1_c_0 (constantI S_ 32 16384#32),
    StableHlo.unary main_call1_c_0 main_call1_v2 (broadcastInDim S2x2x8x1 ![] bcast_S_S2x2x8x1),
    StableHlo.binary main_v11 main_call1_v2 main_call1_v3 addi,
    StableHlo.ternary main_call1_v1 main_call1_v3 main_v11 main_call1_v4 select,
    StableHlo.nullary main_call1_c_1 (constantI S1 32 16383#32),
    StableHlo.nullary main_call1_c_2 (constantI S_ 32 0#32),
    StableHlo.unary main_call1_c_2 main_call1_v5 (broadcastInDim S2x2x8x1 ![] bcast_S_S2x2x8x1),
    StableHlo.binary main_call1_v4 main_call1_v5 main_call1_v6 (cmpi .sge),
    StableHlo.unary main_call1_c_1 main_call1_v7 (broadcastInDim S1x1x1x1 ![3] bcast_S1_S1x1x1x1_3),
    StableHlo.unary main_call1_v7 main_call1_v8 (broadcastInDim S2x2x8x1 ![0, 1, 2, 3] bcast_S1x1x1x1_S2x2x8x1_0_1_2_3),
    StableHlo.binary main_call1_v4 main_call1_v8 main_call1_v9 (cmpi .sle),
    StableHlo.binary main_call1_v6 main_call1_v9 main_call1_v10 andi,
    StableHlo.nullary main_call1_c_3 (constantI S_ 1 1#1),
    StableHlo.binary main_call1_v10 main_call1_c_3 main_call1_v11 (fun x v => Host.reduce IntOp.andi x v reducesTo_S2x2x8x1_S2x2x8_d3 h_S_),
    StableHlo.binary main_v1 main_call1_v4 main_call1_v12 (fun x i => Host.gather gather_S2x2x16384x256_S2x2x8x1_S2x2x8x256_3_2_01_01_2_3_111256 x i),
    StableHlo.unary main_call1_v11 main_call1_v13 (broadcastInDim S2x2x8x256 ![0, 1, 2] bcast_S2x2x8_S2x2x8x256_0_1_2),
    StableHlo.nullary main_call1_cst (constant S_ .f32 0x7FC00000#32),
    StableHlo.unary main_call1_cst main_call1_v14 (broadcastInDim S2x2x8x256 ![] bcast_S_S2x2x8x256),
    StableHlo.ternary main_call1_v13 main_call1_v12 main_call1_v14 main_v12 select,
    StableHlo.nullary main_cst_1 (constant S_ .f32 0x3F800000#32),
    StableHlo.unary main_cst_1 main_v13 (broadcastInDim S2x8 ![] bcast_S_S2x8 : (⟨S_, .f32⟩ : BufTy).Contents (Elt F) → (⟨S2x8, .f32⟩ : BufTy).Contents (Elt F)),
    StableHlo.binary main_v6 main_v13 main_v14 (maximumf : (⟨S2x8, .f32⟩ : BufTy).Contents (Elt F) → (⟨S2x8, .f32⟩ : BufTy).Contents (Elt F) → (⟨S2x8, .f32⟩ : BufTy).Contents (Elt F)),
    StableHlo.unary main_v14 main_v15 (broadcastInDim S1x2x8x1 ![1, 2] bcast_S2x8_S1x2x8x1_1_2 : (⟨S2x8, .f32⟩ : BufTy).Contents (Elt F) → (⟨S1x2x8x1, .f32⟩ : BufTy).Contents (Elt F)),
    StableHlo.unary main_v6 main_v16 (broadcastInDim S1x2x8x1 ![1, 2] bcast_S2x8_S1x2x8x1_1_2 : (⟨S2x8, .f32⟩ : BufTy).Contents (Elt F) → (⟨S1x2x8x1, .f32⟩ : BufTy).Contents (Elt F)),
    StableHlo.nullary main_cst_2 (constant S_ .f32 0x00000000#32),
    StableHlo.unary main_cst_2 main_v17 (broadcastInDim S1x2x8x1 ![] bcast_S_S1x2x8x1 : (⟨S_, .f32⟩ : BufTy).Contents (Elt F) → (⟨S1x2x8x1, .f32⟩ : BufTy).Contents (Elt F)),
    StableHlo.binary main_v16 main_v17 main_v18 (cmpf .ogt : (⟨S1x2x8x1, .f32⟩ : BufTy).Contents (Elt F) → (⟨S1x2x8x1, .f32⟩ : BufTy).Contents (Elt F) → (⟨S1x2x8x1, .i1⟩ : BufTy).Contents (Elt F)),
    StableHlo.unary main_v15 main_v19 (broadcastInDim S2x2x8x256 ![0, 1, 2, 3] bcast_S1x2x8x1_S2x2x8x256_0_1_2_3 : (⟨S1x2x8x1, .f32⟩ : BufTy).Contents (Elt F) → (⟨S2x2x8x256, .f32⟩ : BufTy).Contents (Elt F)),
    StableHlo.binary main_v8 main_v19 main_v20 (Host.divf : (⟨S2x2x8x256, .f32⟩ : BufTy).Contents (Elt F) → (⟨S2x2x8x256, .f32⟩ : BufTy).Contents (Elt F) → (⟨S2x2x8x256, .f32⟩ : BufTy).Contents (Elt F)),
    StableHlo.unary main_v18 main_call2_v0 (broadcastInDim S2x2x8x256 ![0, 1, 2, 3] bcast_S1x2x8x1_S2x2x8x256_0_1_2_3),
    StableHlo.ternary main_call2_v0 main_v20 main_v12 main_v21 select,
    StableHlo.nullary main_cst_3 (constant S_ .f32 0x00000000#32),
    StableHlo.binary main_v21 main_cst_3 main_v22 ((fun x v => Host.reduceAdd x v reducesTo_S2x2x8x256_S2x8x256_d0 h_S_) : (⟨S2x2x8x256, .f32⟩ : BufTy).Contents (Elt F) → (⟨S_, .f32⟩ : BufTy).Contents (Elt F) → (⟨S2x8x256, .f32⟩ : BufTy).Contents (Elt F)),
    StableHlo.nullary main_cst_4 (constant S_ .f32 0x40000000#32),
    StableHlo.unary main_cst_4 main_v23 (broadcastInDim S2x8x256 ![] bcast_S_S2x8x256 : (⟨S_, .f32⟩ : BufTy).Contents (Elt F) → (⟨S2x8x256, .f32⟩ : BufTy).Contents (Elt F)),
    StableHlo.binary main_v22 main_v23 main_v24 (Host.divf : (⟨S2x8x256, .f32⟩ : BufTy).Contents (Elt F) → (⟨S2x8x256, .f32⟩ : BufTy).Contents (Elt F) → (⟨S2x8x256, .f32⟩ : BufTy).Contents (Elt F)),
    StableHlo.unary main_v24 main_v25 (broadcastInDim S2x1x8x256 ![0, 2, 3] bcast_S2x8x256_S2x1x8x256_0_2_3 : (⟨S2x8x256, .f32⟩ : BufTy).Contents (Elt F) → (⟨S2x1x8x256, .f32⟩ : BufTy).Contents (Elt F)) ]

theorem main_eq (d : Dev nD) : main (F := F) d = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.unary_bufs_sub .., StableHlo.reshape_bufs_sub .., StableHlo.reshape_bufs_sub .., StableHlo.nullary_bufs_sub
    .., StableHlo.unary_bufs_sub .., StableHlo.binary_bufs_sub .., StableHlo.unary_bufs_sub .., StableHlo.nullary_bufs_sub
    .., StableHlo.binary_bufs_sub .., StableHlo.binary_bufs_sub .., StableHlo.unary_bufs_sub ..,
    StableHlo.nullary_bufs_sub .., StableHlo.nullary_bufs_sub .., StableHlo.nullary_bufs_sub ..,
    StableHlo.quaternary_bufs_sub .., StableHlo.quaternary_bufs_sub .., StableHlo.unary_bufs_sub ..,
    StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub
    .., StableHlo.nullary_bufs_sub .., StableHlo.nullary_bufs_sub .., StableHlo.unary_bufs_sub ..,
    StableHlo.binary_bufs_sub .., StableHlo.unary_bufs_sub .., StableHlo.unary_bufs_sub .., StableHlo.binary_bufs_sub ..,
    StableHlo.binary_bufs_sub .., StableHlo.nullary_bufs_sub .., StableHlo.binary_bufs_sub .., StableHlo.binary_bufs_sub
    .., StableHlo.unary_bufs_sub .., StableHlo.nullary_bufs_sub .., StableHlo.unary_bufs_sub ..,
    StableHlo.ternary_bufs_sub .., StableHlo.nullary_bufs_sub .., StableHlo.unary_bufs_sub .., StableHlo.binary_bufs_sub
    .., StableHlo.unary_bufs_sub .., StableHlo.unary_bufs_sub .., StableHlo.nullary_bufs_sub .., StableHlo.unary_bufs_sub
    .., StableHlo.binary_bufs_sub .., StableHlo.unary_bufs_sub .., StableHlo.binary_bufs_sub .., StableHlo.unary_bufs_sub
    .., StableHlo.ternary_bufs_sub .., StableHlo.nullary_bufs_sub .., StableHlo.binary_bufs_sub ..,
    StableHlo.nullary_bufs_sub .., StableHlo.unary_bufs_sub .., StableHlo.binary_bufs_sub .., StableHlo.unary_bufs_sub ..⟩

/-! ## The stages -/

/-- The features with their channels last and the pixels of a plane in one row. -/
def fmapV (x : S2x2x256x128x128.Idx → Elt F .f32) : S2x2x16384x256.Idx → Elt F .f32 :=
  shapeCast S2x2x16384x256 (transpose S2x2x128x128x256 [0, 1, 3, 4, 2] x transposes_S2x2x256x128x128_S2x2x128x128x256_0_1_3_4_2)
    shapeCasts_S2x2x128x128x256_S2x2x16384x256

/-- The scribbles, the pixels of a plane in one row. -/
def maskV (y : S2x8x128x128.Idx → Elt F .f32) : S2x8x16384.Idx → Elt F .f32 :=
  shapeCast S2x8x16384 y shapeCasts_S2x8x128x128_S2x8x16384

/-- One where a scribble is over a half, zero elsewhere. -/
def selV (k : S2x8x16384.Idx → Elt F .f32) : S2x8x16384.Idx → Elt F .f32 :=
  uitofp .f32 (cmpf .ogt k (broadcastInDim S2x8x16384 ![] bcast_S_S2x8x16384 (constant S_ .f32 0x3F000000#32)))

/-- How many are. -/
def countV (s : S2x8x16384.Idx → Elt F .f32) : S2x8.Idx → Elt F .f32 :=
  Host.reduceAdd s (constant S_ .f32 0x00000000#32) reducesTo_S2x8x16384_S2x8_d2 h_S_

/-- Each channel summed over the selected pixels. -/
def sumV (f : S2x2x16384x256.Idx → Elt F .f32) (s : S2x8x16384.Idx → Elt F .f32) : S2x2x8x256.Idx → Elt F .f32 :=
  transpose S2x2x8x256 [1, 0, 3, 2] (Host.dotGeneral dot_S2x2x16384x256_S2x8x16384_S2x2x256x8_2_2_03_1_1_0 none f s)
    transposes_S2x2x256x8_S2x2x8x256_1_0_3_2

/-- The pixel where a scribble is greatest. -/
def argV (k : S2x8x16384.Idx → Elt F .f32) : S2x8.Idx → BitVec 32 := fun j =>
  (Host.argReduce reducer_argmax_f32_i32 k (iotaInDim S2x8x16384 32 2) (constant S_ .f32 0xFF800000#32) (constantI S_ 32 0#32)
    reducesTo_S2x8x16384_S2x8_d2 h_S_ j).2

/-- The same pixel for each level. -/
def idxV (a : S2x8.Idx → BitVec 32) : S2x2x8x1.Idx → BitVec 32 :=
  broadcastInDim S2x2x8x1 ![0, 1, 2, 3] bcast_S1x2x8x1_S2x2x8x1_0_1_2_3 (broadcastInDim S1x2x8x1 ![1, 2] bcast_S2x8_S1x2x8x1_1_2 a)

/-- A negative pixel counted from the row's end. -/
def wrapV (i : S2x2x8x1.Idx → BitVec 32) : S2x2x8x1.Idx → BitVec 32 :=
  select (cmpi .slt i (broadcastInDim S2x2x8x1 ![] bcast_S_S2x2x8x1 (constantI S_ 32 0#32)))
    (addi i (broadcastInDim S2x2x8x1 ![] bcast_S_S2x2x8x1 (constantI S_ 32 16384#32))) i

/-- Whether a pixel is in the row. -/
def inV (i : S2x2x8x1.Idx → BitVec 32) : S2x2x8.Idx → BitVec 1 :=
  Host.reduce IntOp.andi
    (andi (cmpi .sge i (broadcastInDim S2x2x8x1 ![] bcast_S_S2x2x8x1 (constantI S_ 32 0#32)))
      (cmpi .sle i (broadcastInDim S2x2x8x1 ![0, 1, 2, 3] bcast_S1x1x1x1_S2x2x8x1_0_1_2_3
        (broadcastInDim S1x1x1x1 ![3] bcast_S1_S1x1x1x1_3 (constantI S1 32 16383#32)))))
    (constantI S_ 1 1#1) reducesTo_S2x2x8x1_S2x2x8_d3 h_S_

/-- The features at those pixels. -/
def takeV (f : S2x2x16384x256.Idx → Elt F .f32) (i : S2x2x8x1.Idx → BitVec 32) : S2x2x8x256.Idx → Elt F .f32 :=
  select (broadcastInDim S2x2x8x256 ![0, 1, 2] bcast_S2x2x8_S2x2x8x256_0_1_2 (inV i))
    (Host.gather gather_S2x2x16384x256_S2x2x8x1_S2x2x8x256_3_2_01_01_2_3_111256 f i)
    (broadcastInDim S2x2x8x256 ![] bcast_S_S2x2x8x256 (constant S_ .f32 0x7FC00000#32))

/-- The mean over the selected pixels. -/
def meanV (u : S2x2x8x256.Idx → Elt F .f32) (n : S2x8.Idx → Elt F .f32) : S2x2x8x256.Idx → Elt F .f32 :=
  Host.divf u (broadcastInDim S2x2x8x256 ![0, 1, 2, 3] bcast_S1x2x8x1_S2x2x8x256_0_1_2_3
    (broadcastInDim S1x2x8x1 ![1, 2] bcast_S2x8_S1x2x8x1_1_2
      (maximumf n (broadcastInDim S2x8 ![] bcast_S_S2x8 (constant S_ .f32 0x3F800000#32)))))

/-- That where some pixel is selected, the features at the greatest elsewhere. -/
def descV (n : S2x8.Idx → Elt F .f32) (u t : S2x2x8x256.Idx → Elt F .f32) : S2x2x8x256.Idx → Elt F .f32 :=
  select (broadcastInDim S2x2x8x256 ![0, 1, 2, 3] bcast_S1x2x8x1_S2x2x8x256_0_1_2_3
      (cmpf .ogt (broadcastInDim S1x2x8x1 ![1, 2] bcast_S2x8_S1x2x8x1_1_2 n)
        (broadcastInDim S1x2x8x1 ![] bcast_S_S1x2x8x1 (constant S_ .f32 0x00000000#32)))) u t

/-- The mean over the two levels. -/
def levelsV (d : S2x2x8x256.Idx → Elt F .f32) : S2x1x8x256.Idx → Elt F .f32 :=
  broadcastInDim S2x1x8x256 ![0, 2, 3] bcast_S2x8x256_S2x1x8x256_0_2_3
    (Host.divf (Host.reduceAdd d (constant S_ .f32 0x00000000#32) reducesTo_S2x2x8x256_S2x8x256_d0 h_S_)
      (broadcastInDim S2x8x256 ![] bcast_S_S2x8x256 (constant S_ .f32 0x40000000#32)))

/-- What the reference computes of the features and the scribbles. -/
def refV (x : S2x2x256x128x128.Idx → Elt F .f32) (y : S2x8x128x128.Idx → Elt F .f32) : S2x1x8x256.Idx → Elt F .f32 :=
  levelsV (descV (countV (selV (maskV y))) (meanV (sumV (fmapV x) (selV (maskV y))) (countV (selV (maskV y))))
    (takeV (fmapV x) (wrapV (idxV (argV (maskV y))))))

theorem result_eq (V : Valuation τ sig (Elt F)) :
    after (ops : List (HloOp τ sig (Elt F))) V (Proc.devRef .tc main_v25)
      = refV (V (Proc.devRef .tc main_arg0)) (V (Proc.devRef .tc main_arg1)) := by
  after_results <;> rfl

/-- An argument is written by no operation. -/
theorem ops_keep (V : Valuation τ sig (Elt F)) (b : Ref sig .tc)
    (hb : b ∈ ([main_arg0, main_arg1, main_arg2, main_arg3, main_arg4] : List (Ref sig .tc))) :
    after (ops : List (HloOp τ sig (Elt F))) V (Proc.devRef .tc b) = V (Proc.devRef .tc b) := by
  refine after_of_forall_not_mem (b := Proc.devRef .tc b) _ _ (List.forall_iff_forall_mem.mp ?_)
  simp only [ops, List.Forall, nullary_writes, unary_writes, binary_writes, ternary_writes, quaternary_writes, reshape_writes,
    Finset.mem_singleton]
  simp only [List.mem_cons, List.mem_nil_iff, or_false] at hb
  rcases hb with rfl | rfl | rfl | rfl | rfl
  all_goals
    repeat' apply And.intro
    all_goals exact devRef_ne_of_ne (by decide)

variable (m : (ℓ : Loc nD τ sig) → Buf (Elt F) ℓ) (ρ : Dev nD → PrngReg)

/-- THE RUN: the result and the arguments. -/
theorem run_read : θ_run defs (onTc (τ := τ) (main (F := F))) ⟨m, fun _ => 0, ρ⟩
    (fun r => ∀ c : Dev nD, r.2.mem ((c : Thread nD τ).loc main_v25)
          = refV (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) :=
  (θ_run defs _ _).mono (fun _ h c =>
      ⟨(h c main_v25).trans (result_eq _), (h c main_arg0).trans (ops_keep _ _ (by simp)), (h c main_arg1).trans (ops_keep _ _ (by simp)),
        (h c main_arg2).trans (ops_keep _ _ (by simp)), (h c main_arg3).trans (ops_keep _ _ (by simp)),
        (h c main_arg4).trans (ops_keep _ _ (by simp))⟩)
    (run_seq scopedRefs_eq scopedSems_eq defs main (fun _ => ops) main_eq (fun _ => ops_sub) m ρ)

end Cert.ReferenceIdeal.Run

end
-- ==== Proof.Frames.lean ====
/-
  THE FRAMES: each program runs to its end, leaves its arguments as they were and every counter at zero.
-/
module

public import proofs.«01_k».proof.Defs
public import proofs.«01_k».proof.Proof.Whole
public import proofs.«01_k».proof.Proof.Reference
public import proofs.«01_k».proof.Proof.Gen.Kernel.Frame
public import Idealize.ShloMosaic.Lib.Quiescent

@[expose] public section

noncomputable section

namespace Cert.Proof

open Idealize.ShloMosaic Idealize.SL.Sem
open Cert.Kernel.Gen Cert.KernelIdeal.Gen

/-- The idealized kernel's frame. -/
theorem frame_kernelIdeal : Cert.quiescent_KernelIdeal (hKernelIdeal := Cert.KernelIdeal.Gen.facts) := fun m g _ =>
  Cert.KernelIdeal.Run.run_frame m g

/-! The kernel's text is the idealized kernel's, whose run is proved over any floats: at the machine's floats it is the
kernel's run. -/

/-- The two body tables are one. -/
theorem defs₀_same : (Cert.Kernel.defs₀ (F := Bits)) = (Cert.KernelIdeal.defs₀ (F := Bits)) := by
  unfold Cert.Kernel.defs₀ Cert.KernelIdeal.defs₀
  refine congrArg Defs.onTc (funext fun l => ?_)
  obtain ⟨n, hn⟩ := l
  cases n with
  | zero => rfl
  | succ n => exact absurd hn (Nat.not_lt.2 (Nat.le_add_left _ _))

theorem defs_same : (Cert.Kernel.defs (F := Bits)) = (Cert.KernelIdeal.defs (F := Bits)) :=
  congrArg (Pipeline.defs Cert.KernelIdeal.pcfgs) defs₀_same

/-- The kernel's frame. -/
theorem frame_kernel : Cert.quiescent_Kernel (hKernel := Cert.Kernel.Gen.facts) := fun m g _ => by
  rw [defs_same]
  exact Cert.KernelIdeal.Run.run_frame (F := Bits) m g

/-- The reference's frame: it has no counter. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Run.run_read m g)

end Cert.Proof

end
-- ==== Proof.Arith.lean ====
/-
  THE ARITHMETIC of one result entry, over the extended reals: a product of the levels' sum with a scaled selection is the
  mean over the levels of each level's own mean.
-/
module

public import Idealize.ShloMosaic.PureOps.Ideal.Laws

@[expose] public section

noncomputable section

namespace Cert.Value

open Idealize.ShloMosaic

/-- The word of one half is one half. -/
theorem half_word : Ideal.ofBits .f32 0x3F000000#32 = ((1 / 2 : ℝ) : EReal) := by
  simp [Ideal.ofBits, Ideal.ieee, -EReal.coe_mul]; norm_num

/-- The word of one is one. -/
theorem one_word : Ideal.ofBits .f32 0x3F800000#32 = (1 : EReal) := by
  have h : Ideal.ofBits .f32 0x3F800000#32 = ((1 : ℝ) : EReal) := by
    simp [Ideal.ofBits, Ideal.ieee, -EReal.coe_mul]; norm_num
  exact h.trans EReal.coe_one

/-- The word of two is two. -/
theorem two_word : Ideal.ofBits .f32 0x40000000#32 = ((2 : ℝ) : EReal) := by
  simp [Ideal.ofBits, Ideal.ieee, -EReal.coe_mul]; norm_num

/-- The word of minus infinity is the least extended real. -/
theorem bot_word : Ideal.ofBits .f32 0xFF800000#32 = (⊥ : EReal) := by
  simp [Ideal.ofBits, Ideal.ieee]

/-- A sum over the extended reals times a finite number that is not negative. -/
theorem sum_mul_coe {ι : Type} (S : Finset ι) (f : ι → EReal) {r : ℝ} (hr : 0 ≤ r) :
    (∑ h ∈ S, f h) * (r : EReal) = ∑ h ∈ S, f h * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

/-- A sum of two times a finite number that is not negative. -/
theorem add_mul_coe (x y : EReal) {r : ℝ} (hr : 0 ≤ r) : (x + y) * (r : EReal) = x * (r : EReal) + y * (r : EReal) :=
  EReal.right_distrib_of_nonneg_of_ne_top (by exact_mod_cast hr) (EReal.coe_ne_top r) _ _

/-- A selection's weight as a number: one or zero. -/
def bit (b : Bool) : ℝ := if b then 1 else 0

theorem bit_nonneg (b : Bool) : 0 ≤ bit b := by cases b <;> simp [bit]

/-- How many entries of a selection are one. -/
theorem sum_bit {ι : Type} [Fintype ι] (s : ι → Bool) :
    ∑ h, ((bit (s h) : ℝ) : EReal) = (((Finset.univ.filter fun h => s h = true).card : ℝ) : EReal) := by
  classical
  have : ∀ S : Finset ι, ∑ h ∈ S, ((bit (s h) : ℝ) : EReal) = ((∑ h ∈ S, bit (s h) : ℝ) : EReal) := fun S => by
    induction S using Finset.induction_on with
    | empty => simp
    | insert a S ha ih => rw [Finset.sum_insert ha, Finset.sum_insert ha, ih, EReal.coe_add]
  rw [this]
  congr 1
  simp [bit, Finset.sum_ite]

/-- THE ENTRY: the two levels' sum against the selection scaled by half the reciprocal count (by a half, at the pixel `p`
    alone, where nothing is selected) is half the sum over the levels of that level's mean over the selection (of its entry at
    `p` there). -/
theorem entry_eq {ι : Type} [Fintype ι] [DecidableEq ι] (f : Fin 2 → ι → EReal) (s : ι → Bool) (p : ι) (n : EReal)
    (hn : n = ∑ h, ((bit (s h) : ℝ) : EReal)) :
    ∑ h, (f 0 h + f 1 h) * ((if 0 < n then ((bit (s h) : ℝ) : EReal) else ((bit (decide (h = p)) : ℝ) : EReal))
        * Ideal.div 1 (((2 : ℝ) : EReal) * max n 1))
      = Ideal.div (∑ l : Fin 2, if 0 < n then Ideal.div (∑ h, f l h * ((bit (s h) : ℝ) : EReal)) (max n 1) else f l p)
          ((2 : ℝ) : EReal) := by
  rw [sum_bit] at hn
  generalize (Finset.univ.filter fun h => s h = true).card = N at hn
  rw [Ideal.div_coe (by norm_num : (2 : ℝ) ≠ 0), Fin.sum_univ_two]
  by_cases h0 : N = 0
  · subst h0
    have hn0 : n = 0 := by rw [hn]; simp
    subst hn0
    have e1 : Ideal.div 1 (((2 : ℝ) : EReal) * max 0 1) = ((1 / 2 : ℝ) : EReal) := by
      rw [max_eq_right zero_le_one, mul_one, Ideal.div_coe (by norm_num : (2 : ℝ) ≠ 0), one_mul]
    simp only [lt_irrefl, if_false, e1]
    rw [Finset.sum_eq_single p]
    · simp [bit]
    · intro h _ hp
      simp [bit, hp]
    · intro h; exact absurd (Finset.mem_univ p) h
  · have hN : (1 : ℝ) ≤ N := by exact_mod_cast Nat.one_le_iff_ne_zero.mpr h0
    have hpos : 0 < n := by rw [hn]; exact_mod_cast Nat.pos_of_ne_zero h0
    have hmax : max n 1 = ((N : ℝ) : EReal) := by
      rw [hn]; exact max_eq_left (by exact_mod_cast hN)
    have hN0 : (N : ℝ) ≠ 0 := by exact_mod_cast h0
    have e1 : Ideal.div 1 (((2 : ℝ) : EReal) * ((N : ℝ) : EReal)) = ((1 / (2 * N) : ℝ) : EReal) := by
      rw [← EReal.coe_mul, Ideal.div_coe (by positivity), one_mul]
    simp only [hpos, if_true, e1, hmax, Ideal.div_coe hN0]
    have hr : (0 : ℝ) ≤ 1 / N := by positivity
    have h2 : (0 : ℝ) ≤ 1 / 2 := by norm_num
    rw [add_mul_coe _ _ h2, sum_mul_coe _ _ hr, sum_mul_coe _ _ hr, sum_mul_coe _ _ h2, sum_mul_coe _ _ h2,
      ← Finset.sum_add_distrib]
    refine Finset.sum_congr rfl fun h _ => ?_
    have e2 : ∀ x : EReal, x * ((bit (s h) : ℝ) : EReal) * ((1 / (N : ℝ) : ℝ) : EReal) * ((1 / 2 : ℝ) : EReal)
        = x * (((bit (s h) * (1 / (2 * N)) : ℝ)) : EReal) := fun x => by
      rw [mul_assoc, mul_assoc, ← EReal.coe_mul, ← EReal.coe_mul]
      congr 2
      field_simp
    rw [e2, e2, ← EReal.coe_mul]
    exact add_mul_coe _ _ (mul_nonneg (bit_nonneg _) (by positivity))

end Cert.Value

end
-- ==== Proof.Entry.lean ====
/-
  ONE RESULT ENTRY of the features and the scribbles, read pixel by pixel: batch `b`, scribble `i`, channel `ch`.
-/
module

public import proofs.«01_k».proof.Proof.Arith
public import Idealize.ShloMosaic.Lib.ValueIdx

@[expose] public section

noncomputable section

namespace Cert.Value

open Idealize.ShloMosaic
open Idealize.ShloMosaic.ValueIdx (ix4 ix5)

/-- A pixel's row. -/
abbrev prow (h : Fin 16384) : Fin 128 := ⟨h.val / 128, by have := h.isLt; omega⟩

/-- A pixel's place in its row. -/
abbrev pcol (h : Fin 16384) : Fin 128 := ⟨h.val % 128, Nat.mod_lt _ (by decide)⟩

/-- The features of level `l` at a pixel. -/
def feat (X : (⟨5, ![2, 2, 256, 128, 128]⟩ : Shape).Idx → EReal) (b : Fin 2) (ch : Fin 256) (l : Fin 2) (h : Fin 16384) : EReal :=
  X (ix5 l b ch (prow h) (pcol h))

/-- A scribble at a pixel. -/
def scrib (Y : (⟨4, ![2, 8, 128, 128]⟩ : Shape).Idx → EReal) (b : Fin 2) (i : Fin 8) (h : Fin 16384) : EReal :=
  Y (ix4 b i (prow h) (pcol h))

/-- Whether a scribble selects a pixel. -/
def chosen (v : Fin 16384 → EReal) (h : Fin 16384) : Bool := decide (((1 / 2 : ℝ) : EReal) < v h)

/-- How many pixels a scribble selects. -/
def count (v : Fin 16384 → EReal) : EReal := ∑ h, ((bit (chosen v h) : ℝ) : EReal)

/-- The kernel's weight at a pixel, `p` the pixel where the scribble is greatest. -/
def weight (v : Fin 16384 → EReal) (p h : Fin 16384) : EReal :=
  (if 0 < count v then ((bit (chosen v h) : ℝ) : EReal) else ((bit (decide (h = p)) : ℝ) : EReal))
    * Ideal.div 1 (((2 : ℝ) : EReal) * max (count v) 1)

/-- The reference's value of one level. -/
def level (f : Fin 16384 → EReal) (v : Fin 16384 → EReal) (p : Fin 16384) : EReal :=
  if 0 < count v then Ideal.div (∑ h, f h * ((bit (chosen v h) : ℝ) : EReal)) (max (count v) 1) else f p

/-- The two are one. -/
theorem weight_level (f : Fin 2 → Fin 16384 → EReal) (v : Fin 16384 → EReal) (p : Fin 16384) :
    ∑ h, (f 0 h + f 1 h) * weight v p h = Ideal.div (∑ l : Fin 2, level (f l) v p) ((2 : ℝ) : EReal) :=
  entry_eq f (chosen v) p (count v) rfl

/-- A comparison's bit, widened and read as a signed integer. -/
theorem bit_signed (b : Bool) : ((((BitVec.ofBool b).setWidth 32).toInt : ℝ) : EReal) = ((bit b : ℝ) : EReal) := by
  cases b <;> simp [bit]

/-- A comparison's bit, read as an unsigned integer. -/
theorem bit_unsigned (b : Bool) : (((BitVec.ofBool b).toNat : ℝ) : EReal) = ((bit b : ℝ) : EReal) := by
  cases b <;> simp [bit]

/-- The bit of a comparison for greater. -/
theorem greater_bit (x y : EReal) : FloatOps.cmpf (F := Ideal) (φ := .f32) .ogt x y = BitVec.ofBool (decide (y < x)) := rfl

/-- A choice on a comparison's bit. -/
theorem select_bool {α : Type} (b : Bool) (x y : α) : Scalar.select (BitVec.ofBool b) x y = if b = true then x else y := by
  cases b <;> rfl

end Cert.Value

end
-- ==== Proof.KVal.lean ====
/-
  THE KERNEL'S RESULT AT AN ENTRY, but for the selection: what a block reads of the features, the product, the host lines.
-/
module

public import proofs.«01_k».proof.Proof.Whole
public import proofs.«01_k».proof.Proof.Entry
public import Idealize.ShloMosaic.Lib.Pipeline.Value

@[expose] public section

noncomputable section

namespace Cert.KernelIdeal.Run

open Cert.KernelIdeal.Gen Cert.Value
open Idealize.ShloMosaic Idealize.ShloMosaic.TcCoe
open Idealize.ShloMosaic.ValueIdx
open Idealize.SL Idealize.SL.Sem

/-- A channel of the result, as a chunk and a channel of it. -/
abbrev chunk (ch : Fin 256) : Fin 16 := ⟨ch.val / 16, by have := ch.isLt; omega⟩
abbrev within (ch : Fin 256) : Fin 16 := ⟨ch.val % 16, Nat.mod_lt _ (by decide)⟩

/-- The host lines read the output array at the channel's chunk. -/
theorem hostV_apply (x : S2x16x16x8.Idx → Elt Ideal .f32) (b : Fin 2) (i : Fin 8) (ch : Fin 256) :
    hostV x (ix4 b (0 : Fin 1) i ch) = x (ix4 b (chunk ch) (within ch) i) := by
  unfold hostV
  rw [broadcastInDim_apply _ _ _ _ (ix3 b i ch) (fun a => match a with | ⟨0, _⟩ => rfl | ⟨1, _⟩ => rfl | ⟨2, _⟩ => rfl),
    shapeCast_apply _ _ _ (ix4 b i (chunk ch) (within ch)) (by
      rw [Shape.rowMajor_val_four, Shape.rowMajor_val_three]
      show ((b.val * 8 + i.val) * 16 + ch.val / 16) * 16 + ch.val % 16 = (b.val * 8 + i.val) * 256 + ch.val
      omega),
    transpose_apply _ _ _ _ (ix4 b (chunk ch) (within ch) i)
      (fun a => match a with | ⟨0, _⟩ => rfl | ⟨1, _⟩ => rfl | ⟨2, _⟩ => rfl | ⟨3, _⟩ => rfl)]

/-- A block at an entry: the features at the block's batch and channels. -/
theorem blkV_apply (c : Dev nD) (X : FeatB (F := Ideal) c) (b : Fin 2) (ch : Fin 256) (t : Fin 32)
    (ht : t.val = 16 * b.val + ch.val / 16) (l : Fin 2) (h : Fin 16384) :
    blkV c X t (ix3 l (within ch) h) = feat X b ch l h := by
  have hb := b.isLt
  have hc := ch.isLt
  have hh := h.isLt
  have e1 : Shape.reshapeEquiv (squeezes_S2x1x16x16384_S2x16x16384.numel_eq) (ix3 l (within ch) h) = ix4 l (0 : Fin 1) (within ch) h :=
    Shape.reshapeEquiv_eq_of_rowMajor _ (by
      rw [Shape.rowMajor_val_four, Shape.rowMajor_val_three]
      show ((l.val * 1 + 0) * 16 + ch.val % 16) * 16384 + h.val = (l.val * 16 + ch.val % 16) * 16384 + h.val
      omega)
  refine Eq.trans (congrArg (fun i => X (Shape.reshapeEquiv reshapes_S2x2x256x128x128_S2x2x256x16384.1
    ((Rect.unit (s := S2x2x256x16384) ![0, t.val / 16, 16 * (t.val % 16), 0] S2x1x16x16384.size (blk_inb t)).emb i))) e1) ?_
  refine congrArg X (Shape.reshapeEquiv_eq_of_rowMajor _ ?_)
  rw [Shape.rowMajor_val_five, Shape.rowMajor_val_four]
  show (((l.val * 2 + b.val) * 256 + ch.val) * 128 + h.val / 128) * 128 + h.val % 128
    = (((0 + 1 * l.val) * 2 + (t.val / 16 + 1 * 0)) * 256 + (16 * (t.val % 16) + 1 * (ch.val % 16))) * 16384 + (0 + 1 * h.val)
  have e2 : t.val / 16 = b.val := by omega
  have e3 : 16 * (t.val % 16) + ch.val % 16 = ch.val := by omega
  rw [e2]
  omega

/-- The block's product at an entry: the sum over the pixels of both levels times the selection. -/
theorem pay2_apply (u v : Vec Ideal S1x1x16x16384 .f32) (s : Vec Ideal S1x8x16384 .f32) (cc : Fin 16) (i : Fin 8) :
    k0_pay2 u v s (ix4 (0 : Fin 1) (0 : Fin 1) cc i)
      = ∑ h : Fin 16384, (u (ix4 (0 : Fin 1) (0 : Fin 1) cc h) + v (ix4 (0 : Fin 1) (0 : Fin 1) cc h)) * s (ix3 (0 : Fin 1) i h) := by
  unfold k0_pay2
  rw [shapeCast_apply _ _ _ (ix2 cc i) (by
    rw [Shape.rowMajor_val_four, Shape.rowMajor_val_two]
    show cc.val * 8 + i.val = ((0 * 1 + 0) * 16 + cc.val) * 8 + i.val
    omega)]
  simp only [matmul]
  rw [Ideal.matmul_constant_zero_apply,
    ← Equiv.sum_comp (contrEquiv1 dot_S16x16384_S8x16384_S16x8_1_1_0_0_n_n 16384 (by decide) (by decide)).symm]
  refine Finset.sum_congr rfl fun h _ => ?_
  have el : dot_S16x16384_S8x16384_S16x8_1_1_0_0_n_n.lhsIdx (ix2 cc i)
      ((contrEquiv1 dot_S16x16384_S8x16384_S16x8_1_1_0_0_n_n 16384 (by decide) (by decide)).symm h) = ix2 cc h :=
    funext fun a => Fin.ext (match a with | ⟨0, _⟩ => rfl | ⟨1, _⟩ => rfl)
  have er : dot_S16x16384_S8x16384_S16x8_1_1_0_0_n_n.rhsIdx (ix2 cc i)
      ((contrEquiv1 dot_S16x16384_S8x16384_S16x8_1_1_0_0_n_n 16384 (by decide) (by decide)).symm h) = ix2 i h :=
    funext fun a => Fin.ext (match a with | ⟨0, _⟩ => rfl | ⟨1, _⟩ => rfl)
  have hu : ∀ w : Vec Ideal S1x1x16x16384 .f32, shapeCast S16x16384 w shapeCasts_S1x1x16x16384_S16x16384 (ix2 cc h)
      = w (ix4 (0 : Fin 1) (0 : Fin 1) cc h) := fun w => shapeCast_apply _ _ _ _ (by
    rw [Shape.rowMajor_val_four, Shape.rowMajor_val_two]
    show ((0 * 1 + 0) * 16 + cc.val) * 16384 + h.val = cc.val * 16384 + h.val
    omega)
  have hs : shapeCast S8x16384 s shapeCasts_S1x8x16384_S8x16384 (ix2 i h) = s (ix3 (0 : Fin 1) i h) := shapeCast_apply _ _ _ _ (by
    rw [Shape.rowMajor_val_three, Shape.rowMajor_val_two]
    show (0 * 8 + i.val) * 16384 + h.val = i.val * 16384 + h.val
    omega)
  rw [el, er, addf_apply, hu, hu, hs]

/-- The scribbles as the kernel reads them, at an entry. -/
theorem scrV_apply (c : Dev nD) (Y) (b : Fin 2) (i : Fin 8) (h : Fin 16384) :
    scrV (F := Ideal) c Y (ix3 b i h) = scrib Y b i h :=
  congrArg Y (Shape.reshapeEquiv_eq_of_rowMajor _ (by
    rw [Shape.rowMajor_val_four, Shape.rowMajor_val_three]
    show ((b.val * 8 + i.val) * 128 + h.val / 128) * 128 + h.val % 128 = (b.val * 8 + i.val) * 16384 + h.val
    omega))

variable (c : Dev nD) (m : (ℓ : Loc nD τ sig) → Buf (Elt Ideal) ℓ)

/-- THE KERNEL'S RESULT at an entry, of the selection's row. -/
theorem resK_apply (b : Fin 2) (i : Fin 8) (ch : Fin 256) :
    resK c m (ix4 b (0 : Fin 1) i ch)
      = ∑ h : Fin 16384, (feat (m ((c : Thread nD τ).loc main_arg0)) b ch 0 h + feat (m ((c : Thread nD τ).loc main_arg0)) b ch 1 h)
          * selOf (scrV c (m ((c : Thread nD τ).loc main_arg1))) (ix3 b i h) := by
  unfold resK
  rw [hostV_apply]
  unfold outK outV
  rw [pay2_apply]
  refine Finset.sum_congr rfl fun h _ => ?_
  exact congrArg₂ (· * ·) (congrArg₂ (· + ·) (blkV_apply c _ b ch _ rfl 0 h) (blkV_apply c _ b ch _ rfl 1 h)) rfl

end Cert.KernelIdeal.Run

end
-- ==== Proof.Pick.lean ====
/-
  THE PIXEL WHERE A ROW IS GREATEST: the least of those, found by the kernel as the least index at the row's maximum and by
  the reference as a fold over value and index together.
-/
module

public import Idealize.ShloMosaic.PureOps.Ideal.Laws

@[expose] public section

noncomputable section

namespace Cert.Value

open Idealize.ShloMosaic

/-- `p` is the least index at which `v` is greatest. -/
def IsPick {N : ℕ} (v : Fin N → EReal) (p : Fin N) : Prop := ∀ i, v i < v p ∨ (v i = v p ∧ p ≤ i)

/-- A fold of `max` from the bottom is the greatest entry. -/
theorem fold_max_pick {N : ℕ} {v : Fin N → EReal} {p : Fin N} (hp : IsPick v p) :
    (Finset.univ : Finset (Fin N)).fold max ⊥ v = v p := by
  refine le_antisymm ((Finset.fold_max_le _).mpr ⟨bot_le, fun i _ => ?_⟩) ((Finset.le_fold_max _).mpr (Or.inr ⟨p, Finset.mem_univ _, le_rfl⟩))
  rcases hp i with h | h
  · exact h.le
  · exact h.1.le

/-! ## The least word of a family -/

/-- The lesser of two words, read as integers. -/
theorem minsi_toInt (a b : BitVec 32) : (IntOp.minsi a b).toInt = min a.toInt b.toInt := by
  unfold IntOp.minsi
  split <;> rename_i h
  all_goals simp [BitVec.slt, BitVec.sle] at h; omega

instance : Std.Commutative (IntOp.minsi : BitVec 32 → BitVec 32 → BitVec 32) :=
  ⟨fun a b => BitVec.eq_of_toInt_eq (by rw [minsi_toInt, minsi_toInt, min_comm])⟩
instance : Std.Associative (IntOp.minsi : BitVec 32 → BitVec 32 → BitVec 32) :=
  ⟨fun a b c => BitVec.eq_of_toInt_eq (by simp only [minsi_toInt, min_assoc])⟩

/-- A fold of the lesser, read as an integer. -/
theorem fold_minsi_toInt {ι : Type} (S : Finset ι) (g : ι → BitVec 32) (b : BitVec 32) :
    (S.fold IntOp.minsi b g).toInt = S.fold min b.toInt fun i => (g i).toInt := by
  classical
  induction S using Finset.induction_on with
  | empty => rfl
  | insert a S ha ih => rw [Finset.fold_insert ha, Finset.fold_insert ha, minsi_toInt, ih]

/-- A small number's word, read as an integer. -/
theorem ofNat_toInt {k : ℕ} (h : k ≤ 16384) : (BitVec.ofNat 32 k).toInt = k := by
  have e : (BitVec.ofNat 32 k).toNat = k := by rw [BitVec.toNat_ofNat]; exact Nat.mod_eq_of_lt (by omega)
  rw [BitVec.toInt_eq_toNat_of_lt (by rw [e]; omega), e]

/-- The kernel's choice: the least of the indices at which the row is greatest, `16384` put at the others. -/
theorem fold_minsi_pick {v : Fin 16384 → EReal} {p : Fin 16384} (hp : IsPick v p) (g : Fin 16384 → BitVec 32)
    (hg : ∀ i, g i = if v i = v p then BitVec.ofNat 32 i.val else 16384#32) :
    (Finset.univ : Finset (Fin 16384)).fold IntOp.minsi 2147483647#32 g = BitVec.ofNat 32 p.val := by
  refine BitVec.eq_of_toInt_eq ?_
  rw [fold_minsi_toInt, ofNat_toInt p.isLt.le]
  refine le_antisymm (Finset.fold_min_le _ |>.mpr (Or.inr ⟨p, Finset.mem_univ _, ?_⟩)) (Finset.le_fold_min _ |>.mpr ⟨?_, fun i _ => ?_⟩)
  · rw [hg, if_pos rfl, ofNat_toInt p.isLt.le]
  · have : (2147483647#32).toInt = 2147483647 := by decide
    rw [this]; have := p.isLt; omega
  · rw [hg]
    split
    · rename_i h
      rw [ofNat_toInt i.isLt.le]
      rcases hp i with k | ⟨-, k⟩
      · exact absurd h k.ne
      · exact_mod_cast k
    · have : (16384#32).toInt = 16384 := by decide
      rw [this]; have := p.isLt; omega

/-! ## The fold over value and index -/

/-- One pair comes before another: a greater value, or the same value at an index no greater. -/
def Beats (r q : EReal × BitVec 32) : Prop := q.1 < r.1 ∨ (q.1 = r.1 ∧ r.2.toInt ≤ q.2.toInt)

theorem beats_refl (r : EReal × BitVec 32) : Beats r r := Or.inr ⟨rfl, le_rfl⟩

theorem beats_trans {r q t : EReal × BitVec 32} (h : Beats r q) (k : Beats q t) : Beats r t := by
  rcases h with h | ⟨h, h'⟩
  · rcases k with k | ⟨k, -⟩
    · exact Or.inl (k.trans h)
    · exact Or.inl (k ▸ h)
  · rcases k with k | ⟨k, k'⟩
    · exact Or.inl (h ▸ k)
    · exact Or.inr ⟨k.trans h, h'.trans k'⟩

/-- What a fold whose step keeps the pair that comes first ends with: a pair it met, coming before all it met. -/
theorem foldl_beats (f : EReal × BitVec 32 → EReal × BitVec 32 → EReal × BitVec 32)
    (hf : ∀ a b, (f a b = a ∧ Beats a b) ∨ (f a b = b ∧ Beats b a)) (l : List (EReal × BitVec 32)) (r : EReal × BitVec 32) :
    (l.foldl f r = r ∨ l.foldl f r ∈ l) ∧ Beats (l.foldl f r) r ∧ ∀ q ∈ l, Beats (l.foldl f r) q := by
  induction l generalizing r with
  | nil => exact ⟨Or.inl rfl, beats_refl r, fun q h => absurd h List.not_mem_nil⟩
  | cons a l ih =>
    obtain ⟨h1, h2, h3⟩ := ih (f r a)
    rw [List.foldl_cons]
    generalize l.foldl f (f r a) = t at h1 h2 h3
    rcases hf r a with ⟨e, k⟩ | ⟨e, k⟩ <;> rw [e] at h1 h2
    · refine ⟨h1.imp id (List.mem_cons_of_mem _), h2, fun q hq => ?_⟩
      rcases List.mem_cons.mp hq with rfl | hq
      · exact beats_trans h2 k
      · exact h3 q hq
    · refine ⟨Or.inr ?_, beats_trans h2 k, fun q hq => ?_⟩
      · rcases h1 with h1 | h1
        · rw [h1]; exact List.mem_cons_self
        · exact List.mem_cons_of_mem _ h1
      · rcases List.mem_cons.mp hq with rfl | hq
        · exact h2
        · exact h3 q hq

/-- The reference's choice: of a list holding every index's pair and no other, folded from the bottom at index zero. -/
theorem foldl_pick {v : Fin 16384 → EReal} (f : EReal × BitVec 32 → EReal × BitVec 32 → EReal × BitVec 32)
    (hf : ∀ a b, (f a b = a ∧ Beats a b) ∨ (f a b = b ∧ Beats b a)) (l : List (EReal × BitVec 32))
    (hl : ∀ q, q ∈ l ↔ ∃ i : Fin 16384, q = (v i, BitVec.ofNat 32 i.val)) :
    ∃ p, IsPick v p ∧ (l.foldl f (⊥, 0#32)).2 = BitVec.ofNat 32 p.val := by
  obtain ⟨h1, -, h3⟩ := foldl_beats f hf l (⊥, 0#32)
  have key : ∃ p : Fin 16384, l.foldl f (⊥, 0#32) = (v p, BitVec.ofNat 32 p.val) := by
    rcases h1 with h | h
    · refine ⟨0, ?_⟩
      have h0 := h3 _ ((hl _).mpr ⟨0, rfl⟩)
      rw [h] at h0 ⊢
      rcases h0 with h0 | ⟨h0, -⟩
      · exact absurd h0 not_lt_bot
      · exact Prod.ext h0.symm rfl
    · exact (hl _).mp h
  obtain ⟨p, hp⟩ := key
  refine ⟨p, fun i => ?_, by rw [hp]⟩
  have := h3 _ ((hl _).mpr ⟨i, rfl⟩)
  rw [hp] at this
  rcases this with k | ⟨k, k'⟩
  · exact Or.inl k
  · refine Or.inr ⟨k, ?_⟩
    rw [ofNat_toInt p.isLt.le, ofNat_toInt i.isLt.le] at k'
    exact_mod_cast k'

end Cert.Value

end
-- ==== Proof.SelVal.lean ====
/-
  THE KERNEL'S SELECTION AT AN ENTRY: the weight of a pixel, the least pixel at the row's maximum standing in where a scribble
  selects none.
-/
module

public import proofs.«01_k».proof.Proof.Body
public import proofs.«01_k».proof.Proof.Entry
public import proofs.«01_k».proof.Proof.Pick
public import Idealize.ShloMosaic.Lib.Pipeline.Value

@[expose] public section

noncomputable section

namespace Cert.KernelIdeal.Run

open Cert.KernelIdeal.Gen Cert.Value
open Idealize.ShloMosaic Idealize.ShloMosaic.TcCoe
open Idealize.ShloMosaic.ValueIdx
open Idealize.SL Idealize.SL.Sem

variable (x : Vec Ideal S2x8x16384 .f32) (b : Fin 2) (i : Fin 8)

/-- A row of the scribbles. -/
abbrev rowOf : Fin 16384 → EReal := fun h => x (ix3 b i h)

/-- The pixel put into a row's index. -/
theorem lift_row (h : Fin 16384) : Shape.Reduces.lift reduces_S2x8x16384_S2x8 (ix2 b i) h = ix3 b i h :=
  funext fun a => Fin.ext (match a with | ⟨0, _⟩ => rfl | ⟨1, _⟩ => rfl | ⟨2, _⟩ => rfl)

/-- A row's number in a column of one, spread over the row. -/
theorem spread_apply {α : Type} (y : S2x8x1.Idx → α) (h : Fin 16384) :
    broadcastTo S2x8x16384 y broadcasts_S2x8x1_S2x8x16384 (ix3 b i h) = y (ix3 b i (0 : Fin 1)) :=
  broadcastTo_apply _ _ _ _ fun a => match a with | ⟨0, _⟩ => rfl | ⟨1, _⟩ => rfl | ⟨2, _⟩ => rfl

/-- A row's number as a column of one. -/
theorem column_apply {α : Type} (y : S2x8.Idx → α) : shapeCast S2x8x1 y shapeCasts_S2x8_S2x8x1 (ix3 b i (0 : Fin 1)) = y (ix2 b i) :=
  shapeCast_apply _ _ _ _ (by
    rw [Shape.rowMajor_val_three, Shape.rowMajor_val_two]
    show b.val * 8 + i.val = (b.val * 8 + i.val) * 1 + 0
    omega)

/-- One at the pixels over a half. -/
theorem pay3_apply (h : Fin 16384) : k0_pay3 x (ix3 b i h) = ((bit (chosen (rowOf x b i) h) : ℝ) : EReal) := by
  refine Eq.trans (b := ((((BitVec.ofBool (decide (Ideal.ofBits .f32 0x3F000000#32 < x (ix3 b i h)))).setWidth 32).toInt : ℝ) : EReal)) rfl ?_
  rw [half_word]
  exact bit_signed _

/-- How many there are. -/
theorem pay4_apply : k0_pay4 x (ix3 b i (0 : Fin 1)) = count (rowOf x b i) := by
  unfold k0_pay4
  rw [column_apply]
  refine Eq.trans (Ideal.multiReduction_add_single (φ := .f32) _ _ _ _ _ _) ?_
  exact Finset.sum_congr rfl fun h _ => (congrArg (k0_pay3 x) (lift_row b i h)).trans (pay3_apply x b i h)

/-- Whether a pixel is at the row's maximum. -/
theorem pay5_apply {p : Fin 16384} (hp : IsPick (rowOf x b i) p) (h : Fin 16384) :
    k0_pay5 x (ix3 b i h) = BitVec.ofBool (decide (rowOf x b i h = rowOf x b i p)) := by
  have hm : multiReduction (F := Ideal) (φ := .f32) .maximumf [2] S2x8 x 0xFF800000#32 reduces_S2x8x16384_S2x8 (.inl rfl) rfl (ix2 b i) = rowOf x b i p := by
    refine Eq.trans (Ideal.multiReduction_maximumf_single (φ := .f32) _ _ _ _ _ _) ?_
    rw [← fold_max_pick hp]
    have e : x ∘ Shape.Reduces.lift reduces_S2x8x16384_S2x8 (ix2 b i) = rowOf x b i :=
      funext fun h => congrArg x (lift_row b i h)
    rw [e]
    exact congrArg (fun z => (Finset.univ : Finset (Fin 16384)).fold max z (rowOf x b i)) bot_word
  unfold k0_pay5
  rw [cmpf_apply, spread_apply, column_apply, hm]
  rfl

/-- The pixel chosen: the least of those at the maximum. -/
theorem least_apply {p : Fin 16384} (hp : IsPick (rowOf x b i) p) :
    multiReductionI .minsi [2] S2x8 (select (k0_pay5 x) (iota .tc S2x8x16384 32 [2] iota_S2x8x16384_d2_w32) k0_pay6)
        2147483647#32 reduces_S2x8x16384_S2x8 rfl (ix2 b i) = BitVec.ofNat 32 p.val := by
  refine Eq.trans (reduceFold_eq_fold reduces_S2x8x16384_S2x8 IntOp.minsi _ _ _) ?_
  rw [Shape.Reduces.fold_filter_drop_single]
  refine fold_minsi_pick hp _ fun h => ?_
  show select (k0_pay5 x) _ k0_pay6 (Shape.Reduces.lift reduces_S2x8x16384_S2x8 (ix2 b i) h) = _
  rw [lift_row, select_apply, pay5_apply x b i hp, select_bool]
  have ei : iota .tc S2x8x16384 32 [2] iota_S2x8x16384_d2_w32 (ix3 b i h) = BitVec.ofNat 32 h.val := by
    show BitVec.ofNat 32 (0 * 16384 + h.val) = _
    rw [Nat.zero_mul, Nat.zero_add]
  rw [ei]
  simp only [decide_eq_true_eq]
  rfl

/-- THE SELECTION at an entry. -/
theorem selOf_apply {p : Fin 16384} (hp : IsPick (rowOf x b i) p) (h : Fin 16384) :
    selOf x (ix3 b i h) = weight (rowOf x b i) p h := by
  have ei : iota .tc S2x8x16384 32 [2] iota_S2x8x16384_d2_w32 (ix3 b i h) = BitVec.ofNat 32 h.val := by
    show BitVec.ofNat 32 (0 * 16384 + h.val) = _
    rw [Nat.zero_mul, Nat.zero_add]
  have eo : IntOp.cmpi .eq (BitVec.ofNat 32 h.val) (BitVec.ofNat 32 p.val) = BitVec.ofBool (decide (h = p)) := by
    have e : (BitVec.ofNat 32 h.val = BitVec.ofNat 32 p.val) ↔ h = p := by
      refine ⟨fun k => Fin.ext ?_, fun k => by rw [k]⟩
      have := congrArg BitVec.toInt k
      rw [ofNat_toInt h.isLt.le, ofNat_toInt p.isLt.le] at this
      exact_mod_cast this
    show BitVec.ofBool (BitVec.ofNat 32 h.val == BitVec.ofNat 32 p.val) = _
    congr 1
    rw [Bool.eq_iff_iff]
    simp [e]
  unfold selOf k0_pay1
  rw [shapeCast_apply _ _ _ (ix3 b i h) rfl, mulf_apply, spread_apply, divf_apply, mulf_apply, maximumf_apply, pay4_apply]
  rw [select_apply, spread_apply, shapeCast_apply _ _ _ (ix3 b i (0 : Fin 1)) rfl, cmpf_apply, pay4_apply, pay3_apply]
  rw [sitofp_apply, extui_apply]
  have ec : cmpi .eq (iota .tc S2x8x16384 32 [2] iota_S2x8x16384_d2_w32)
      (broadcastTo S2x8x16384 (shapeCast S2x8x1 (multiReductionI .minsi [2] S2x8
        (select (k0_pay5 x) (iota .tc S2x8x16384 32 [2] iota_S2x8x16384_d2_w32) k0_pay6)
        2147483647#32 reduces_S2x8x16384_S2x8 rfl) shapeCasts_S2x8_S2x8x1) broadcasts_S2x8x1_S2x8x16384) (ix3 b i h)
      = BitVec.ofBool (decide (h = p)) := by
    show IntOp.cmpi .eq (iota .tc S2x8x16384 32 [2] iota_S2x8x16384_d2_w32 (ix3 b i h)) (broadcastTo S2x8x16384 _ _ (ix3 b i h)) = _
    rw [ei, spread_apply, column_apply, least_apply x b i hp, eo]
  rw [ec]
  have z : Ideal.ofBits .f32 0x00000000#32 = 0 := Ideal.ofBits_zero_f32
  unfold weight
  simp only [broadcast_apply]
  rw [show (Scalar.ofBits .f32 0x3F800000#32 : Ideal .f32) = 1 from one_word,
    show (Scalar.ofBits .f32 0x40000000#32 : Ideal .f32) = ((2 : ℝ) : EReal) from two_word,
    show (Scalar.ofBits .f32 0x00000000#32 : Ideal .f32) = (0 : EReal) from z]
  refine congrArg (fun q : EReal => q * Ideal.div 1 (((2 : ℝ) : EReal) * max (count (rowOf x b i)) 1)) ?_
  rw [greater_bit, select_bool]
  simp only [decide_eq_true_eq]
  split
  · rfl
  · exact bit_signed _

end Cert.KernelIdeal.Run

end
-- ==== Proof.RefVal.lean ====
/-
  THE REFERENCE'S STAGES AT AN ENTRY, but for the pixel where a scribble is greatest.
-/
module

public import proofs.«01_k».proof.Proof.Reference
public import proofs.«01_k».proof.Proof.Entry
public import Idealize.ShloMosaic.Lib.Pipeline.Value

@[expose] public section

noncomputable section

namespace Cert.ReferenceIdeal.Run

open Cert.ReferenceIdeal.Gen Cert.Value
open Idealize.ShloMosaic Idealize.ShloMosaic.TcCoe
open Idealize.ShloMosaic.ValueIdx
open Idealize.SL Idealize.SL.Sem

/-- The features with their channels last, at an entry. -/
theorem fmapV_apply (X : S2x2x256x128x128.Idx → Elt Ideal .f32) (l b : Fin 2) (h : Fin 16384) (ch : Fin 256) :
    fmapV X (ix4 l b h ch) = feat X b ch l h := by
  have hh := h.isLt
  unfold fmapV
  rw [shapeCast_apply _ _ _ (ix5 l b (prow h) (pcol h) ch) (by
      rw [Shape.rowMajor_val_five, Shape.rowMajor_val_four]
      show (((l.val * 2 + b.val) * 128 + h.val / 128) * 128 + h.val % 128) * 256 + ch.val
        = ((l.val * 2 + b.val) * 16384 + h.val) * 256 + ch.val
      omega),
    transpose_apply _ _ _ _ (ix5 l b ch (prow h) (pcol h))
      (fun a => match a with | ⟨0, _⟩ => rfl | ⟨1, _⟩ => rfl | ⟨2, _⟩ => rfl | ⟨3, _⟩ => rfl | ⟨4, _⟩ => rfl)]
  rfl

/-- The scribbles in rows, at an entry. -/
theorem maskV_apply (Y : S2x8x128x128.Idx → Elt Ideal .f32) (b : Fin 2) (i : Fin 8) (h : Fin 16384) :
    maskV Y (ix3 b i h) = scrib Y b i h :=
  shapeCast_apply _ _ _ (ix4 b i (prow h) (pcol h)) (by
    rw [Shape.rowMajor_val_four, Shape.rowMajor_val_three]
    show ((b.val * 8 + i.val) * 128 + h.val / 128) * 128 + h.val % 128 = (b.val * 8 + i.val) * 16384 + h.val
    omega)

variable (k : S2x8x16384.Idx → Elt Ideal .f32) (b : Fin 2) (i : Fin 8)

/-- A row of the scribbles. -/
abbrev rowR : Fin 16384 → EReal := fun h => k (ix3 b i h)

/-- One at the pixels over a half. -/
theorem selV_apply (h : Fin 16384) : selV (F := Ideal) k (ix3 b i h) = ((bit (chosen (rowR k b i) h) : ℝ) : EReal) := by
  refine Eq.trans (b := (((BitVec.ofBool (decide (Ideal.ofBits .f32 0x3F000000#32 < k (ix3 b i h)))).toNat : ℝ) : EReal)) rfl ?_
  rw [half_word]
  exact bit_unsigned _

theorem reduces_rows : Shape.Reduces S2x8x16384 [2] S2x8 := by decide

/-- The pixel put into a row's index. -/
theorem lift_pixel (h : Fin 16384) : Shape.Reduces.lift reduces_rows (ix2 b i) h = ix3 b i h :=
  funext fun a => Fin.ext (match a with | ⟨0, _⟩ => rfl | ⟨1, _⟩ => rfl | ⟨2, _⟩ => rfl)

/-- How many there are. -/
theorem countV_apply : countV (F := Ideal) (selV k) (ix2 b i) = count (rowR k b i) := by
  refine Eq.trans (Ideal.hostReduceAdd_single _ reduces_rows _ _ _) ?_
  have z : (constant S_ .f32 0x00000000#32 : FVec Ideal S_ .f32) (Shape.Idx.first h_S_) = 0 := Ideal.ofBits_zero_f32
  rw [z, zero_add]
  exact Finset.sum_congr rfl fun h _ => (congrArg (selV (F := Ideal) k) (lift_pixel b i h)).trans (selV_apply k b i h)

/-- A channel summed over the selected pixels, at an entry. -/
theorem sumV_apply (f : S2x2x16384x256.Idx → Elt Ideal .f32) (s : S2x8x16384.Idx → Elt Ideal .f32) (l : Fin 2) (ch : Fin 256) :
    sumV (F := Ideal) f s (ix4 l b i ch) = ∑ h : Fin 16384, (f (ix4 l b h ch) * s (ix3 b i h) : EReal) := by
  unfold sumV
  rw [transpose_apply _ _ _ _ (ix4 b l ch i)
      (fun a => match a with | ⟨0, _⟩ => rfl | ⟨1, _⟩ => rfl | ⟨2, _⟩ => rfl | ⟨3, _⟩ => rfl)]
  simp only [Host.dotGeneral]
  rw [Ideal.dotGeneral_apply,
    ← Equiv.sum_comp (contrEquiv1 dot_S2x2x16384x256_S2x8x16384_S2x2x256x8_2_2_03_1_1_0 16384 (by decide) (by decide)).symm]
  refine Finset.sum_congr rfl fun h _ => ?_
  have el : dot_S2x2x16384x256_S2x8x16384_S2x2x256x8_2_2_03_1_1_0.lhsIdx (ix4 b l ch i)
      ((contrEquiv1 dot_S2x2x16384x256_S2x8x16384_S2x2x256x8_2_2_03_1_1_0 16384 (by decide) (by decide)).symm h) = ix4 l b h ch :=
    funext fun a => Fin.ext (match a with | ⟨0, _⟩ => rfl | ⟨1, _⟩ => rfl | ⟨2, _⟩ => rfl | ⟨3, _⟩ => rfl)
  have er : dot_S2x2x16384x256_S2x8x16384_S2x2x256x8_2_2_03_1_1_0.rhsIdx (ix4 b l ch i)
      ((contrEquiv1 dot_S2x2x16384x256_S2x8x16384_S2x2x256x8_2_2_03_1_1_0 16384 (by decide) (by decide)).symm h) = ix3 b i h :=
    funext fun a => Fin.ext (match a with | ⟨0, _⟩ => rfl | ⟨1, _⟩ => rfl | ⟨2, _⟩ => rfl)
  rw [el, er]

/-- A row's number spread over levels and channels, at an entry. -/
theorem overAll_apply {α : Type} (n : S1x2x8x1.Idx → α) (l : Fin 2) (ch : Fin 256) :
    broadcastInDim S2x2x8x256 ![0, 1, 2, 3] bcast_S1x2x8x1_S2x2x8x256_0_1_2_3 n (ix4 l b i ch) = n (ix4 (0 : Fin 1) b i (0 : Fin 1)) :=
  broadcastInDim_apply _ _ _ _ _ fun a => match a with | ⟨0, _⟩ => rfl | ⟨1, _⟩ => rfl | ⟨2, _⟩ => rfl | ⟨3, _⟩ => rfl

/-- A row's number with two unit axes, at an entry. -/
theorem unit_apply {α : Type} (n : S2x8.Idx → α) :
    broadcastInDim S1x2x8x1 ![1, 2] bcast_S2x8_S1x2x8x1_1_2 n (ix4 (0 : Fin 1) b i (0 : Fin 1)) = n (ix2 b i) :=
  broadcastInDim_apply _ _ _ _ _ fun a => match a with | ⟨0, _⟩ => rfl | ⟨1, _⟩ => rfl

/-- The mean over the selected pixels, at an entry. -/
theorem meanV_apply (u : S2x2x8x256.Idx → Elt Ideal .f32) (n : S2x8.Idx → Elt Ideal .f32) (l : Fin 2) (ch : Fin 256) :
    meanV (F := Ideal) u n (ix4 l b i ch) = Ideal.div (u (ix4 l b i ch)) (max (n (ix2 b i) : EReal) 1) := by
  have e : broadcastInDim S2x2x8x256 ![0, 1, 2, 3] bcast_S1x2x8x1_S2x2x8x256_0_1_2_3
      (broadcastInDim S1x2x8x1 ![1, 2] bcast_S2x8_S1x2x8x1_1_2
        (maximumf n (broadcastInDim S2x8 ![] bcast_S_S2x8 (constant S_ .f32 0x3F800000#32) : FVec Ideal S2x8 .f32))) (ix4 l b i ch)
      = (max (n (ix2 b i) : EReal) 1 : EReal) := by
    rw [overAll_apply, unit_apply, maximumf_apply]
    exact congrArg (max (n (ix2 b i) : EReal)) one_word
  refine Eq.trans (b := Ideal.div (u (ix4 l b i ch)) (broadcastInDim S2x2x8x256 ![0, 1, 2, 3] bcast_S1x2x8x1_S2x2x8x256_0_1_2_3
      (broadcastInDim S1x2x8x1 ![1, 2] bcast_S2x8_S1x2x8x1_1_2
        (maximumf n (broadcastInDim S2x8 ![] bcast_S_S2x8 (constant S_ .f32 0x3F800000#32) : FVec Ideal S2x8 .f32))) (ix4 l b i ch))) rfl ?_
  rw [e]

/-- The choice between the mean and the features at the greatest, at an entry. -/
theorem descV_apply (n : S2x8.Idx → Elt Ideal .f32) (u t : S2x2x8x256.Idx → Elt Ideal .f32) (l : Fin 2) (ch : Fin 256) :
    descV (F := Ideal) n u t (ix4 l b i ch) = if (0 : EReal) < n (ix2 b i) then u (ix4 l b i ch) else t (ix4 l b i ch) := by
  unfold descV
  rw [select_apply, overAll_apply, cmpf_apply, unit_apply]
  have z : broadcastInDim S1x2x8x1 ![] bcast_S_S1x2x8x1 (constant S_ .f32 0x00000000#32 : FVec Ideal S_ .f32)
      (ix4 (0 : Fin 1) b i (0 : Fin 1)) = (0 : EReal) := Ideal.ofBits_zero_f32
  rw [z, greater_bit, select_bool]
  simp only [decide_eq_true_eq]

theorem reduces_levels : Shape.Reduces S2x2x8x256 [0] S2x8x256 := by decide

/-- The level put into a mean's index. -/
theorem lift_level (ch : Fin 256) (l : Fin 2) : Shape.Reduces.lift reduces_levels (ix3 b i ch) l = ix4 l b i ch :=
  funext fun a => Fin.ext (match a with | ⟨0, _⟩ => rfl | ⟨1, _⟩ => rfl | ⟨2, _⟩ => rfl | ⟨3, _⟩ => rfl)

/-- The mean over the levels, at an entry. -/
theorem levelsV_apply (d : S2x2x8x256.Idx → Elt Ideal .f32) (ch : Fin 256) :
    levelsV (F := Ideal) d (ix4 b (0 : Fin 1) i ch) = Ideal.div (∑ l : Fin 2, d (ix4 l b i ch)) ((2 : ℝ) : EReal) := by
  unfold levelsV
  rw [broadcastInDim_apply _ _ _ _ (ix3 b i ch) (fun a => match a with | ⟨0, _⟩ => rfl | ⟨1, _⟩ => rfl | ⟨2, _⟩ => rfl)]
  have e : (Host.reduceAdd d (constant S_ .f32 0x00000000#32) reducesTo_S2x2x8x256_S2x8x256_d0 h_S_ : FVec Ideal S2x8x256 .f32) (ix3 b i ch)
      = ∑ l : Fin 2, (d (ix4 l b i ch) : EReal) := by
    refine Eq.trans (Ideal.hostReduceAdd_single _ reduces_levels _ _ _) ?_
    have z : (constant S_ .f32 0x00000000#32 : FVec Ideal S_ .f32) (Shape.Idx.first h_S_) = 0 := Ideal.ofBits_zero_f32
    rw [z, zero_add]
    exact Finset.sum_congr rfl fun l _ => congrArg d (lift_level b i ch l)
  exact congrArg₂ Ideal.div e two_word

end Cert.ReferenceIdeal.Run

end
-- ==== Proof.RefPick.lean ====
/-
  THE REFERENCE'S PIXEL where a scribble is greatest, and the features it takes there.
-/
module

public import proofs.«01_k».proof.Proof.RefVal
public import proofs.«01_k».proof.Proof.Pick

@[expose] public section

noncomputable section

namespace Cert.ReferenceIdeal.Run

open Cert.ReferenceIdeal.Gen Cert.Value
open Idealize.ShloMosaic Idealize.ShloMosaic.TcCoe
open Idealize.ShloMosaic.ValueIdx
open Idealize.SL Idealize.SL.Sem

/-- The reference's step keeps, of two pairs, the one that comes first. -/
theorem reducer_keeps (a q : EReal × BitVec 32) :
    (reducer_argmax_f32_i32 (F := Ideal) a q = a ∧ Beats a q) ∨ (reducer_argmax_f32_i32 (F := Ideal) a q = q ∧ Beats q a) := by
  obtain ⟨x, n⟩ := a
  obtain ⟨y, k⟩ := q
  have e : reducer_argmax_f32_i32 (F := Ideal) (x, n) (y, k)
      = (Scalar.select (IntOp.ori (BitVec.ofBool (decide (y < x))) (BitVec.ofBool (decide (x ≠ x)))) x y,
          Scalar.select (IntOp.ori (IntOp.ori (BitVec.ofBool (decide (y < x))) (BitVec.ofBool (decide (x ≠ x))))
            (IntOp.andi (BitVec.ofBool (decide (x = y))) (BitVec.ofBool (n.slt k)))) n k) := rfl
  rw [e]
  have hs : n.slt k = decide (n.toInt < k.toInt) := rfl
  rw [hs]
  unfold Beats
  rcases lt_trichotomy y x with h | h | h
  · left
    simp [h, h.ne', Scalar.select, IntOp.ori, IntOp.andi]
  · subst h
    by_cases hk : n.toInt < k.toInt
    · left
      simp [hk, hk.le, Scalar.select, IntOp.ori, IntOp.andi]
    · right
      simp [hk, not_lt.mp hk, Scalar.select, IntOp.ori, IntOp.andi]
  · right
    simp [h, h.ne, h.le, not_lt.mpr h.le, Scalar.select, IntOp.ori, IntOp.andi]

variable (k : S2x8x16384.Idx → Elt Ideal .f32)

/-- The reference's pixel is the least of those where the scribble is greatest. -/
theorem argV_pick (b : Fin 2) (i : Fin 8) :
    ∃ p : Fin 16384, IsPick (rowR k b i) p ∧ argV (F := Ideal) k (ix2 b i) = BitVec.ofNat 32 p.val := by
  unfold argV
  rw [Ideal.argReduce_eq_reduce2, Host.reduce2_eq_foldl_fiber]
  have ex : ∀ h : Fin 16384, (reducesTo_S2x8x16384_S2x8_d2 : Shape.ReducesTo S2x8x16384 [2] S2x8).drop (ix3 b i h) = ix2 b i := fun h =>
    funext fun a => Fin.ext (match a with | ⟨0, _⟩ => rfl | ⟨1, _⟩ => rfl)
  obtain ⟨p, hp, e⟩ := foldl_pick (v := rowR k b i) (reducer_argmax_f32_i32 (F := Ideal)) reducer_keeps
    (Host.argReduceFiber k (iotaInDim S2x8x16384 32 2) reducesTo_S2x8x16384_S2x8_d2 (ix2 b i)) (fun q => by
      unfold Host.argReduceFiber
      simp only [List.mem_map, List.mem_filter, List.mem_finRange, true_and, decide_eq_true_eq]
      constructor
      · rintro ⟨n, hn, rfl⟩
        generalize S2x8x16384.rowMajor.symm n = j at hn
        have e0 : (j 0).val = b.val := congrArg (fun y : S2x8.Idx => (y 0).val) hn
        have e1 : (j 1).val = i.val := congrArg (fun y : S2x8.Idx => (y 1).val) hn
        refine ⟨j 2, Prod.ext (congrArg k (funext fun a => Fin.ext ?_)) rfl⟩
        match a with
        | ⟨0, _⟩ => exact e0
        | ⟨1, _⟩ => exact e1
        | ⟨2, _⟩ => rfl
      · rintro ⟨h, rfl⟩
        exact ⟨S2x8x16384.rowMajor (ix3 b i h), by rw [Equiv.symm_apply_apply]; exact ex h, by rw [Equiv.symm_apply_apply]; rfl⟩)
  have hb : (constant S_ .f32 0xFF800000#32 : FVec Ideal S_ .f32) (Shape.Idx.first h_S_) = (⊥ : EReal) := bot_word
  have hc : constantI S_ 32 0#32 (Shape.Idx.first h_S_) = 0#32 := rfl
  refine ⟨p, hp, ?_⟩
  rw [hb, hc]
  exact e

/-- The pixel for each level, at an entry. -/
theorem idxV_apply (a : S2x8.Idx → BitVec 32) (j : S2x2x8x1.Idx) : idxV a j = a (ix2 (j 1) (j 2)) :=
  (broadcastInDim_apply _ _ _ _ (ix4 (0 : Fin 1) (j 1) (j 2) (0 : Fin 1))
      (fun a => match a with | ⟨0, _⟩ => rfl | ⟨1, _⟩ => rfl | ⟨2, _⟩ => rfl | ⟨3, _⟩ => rfl)).trans
    (unit_apply (j 1) (j 2) a)

/-- A pixel in the row is no negative one. -/
theorem wrapV_apply (w : S2x2x8x1.Idx → BitVec 32) (j : S2x2x8x1.Idx) (p : Fin 16384) (hp : w j = BitVec.ofNat 32 p.val) :
    wrapV w j = BitVec.ofNat 32 p.val := by
  have e : (w j).slt 0#32 = false := by
    rw [hp]
    show decide ((BitVec.ofNat 32 p.val).toInt < 0) = false
    rw [ofNat_toInt p.isLt.le]
    simp
  show Scalar.select (BitVec.ofBool ((w j).slt 0#32)) _ (w j) = _
  rw [e, hp]
  rfl

/-- A conjunction of ones. -/
theorem foldl_ones {ι : Type} (g : ι → BitVec 1) (hg : ∀ n, g n = 1#1) (l : List ι) :
    l.foldl (fun r n => IntOp.andi r (g n)) 1#1 = 1#1 := by
  induction l with
  | nil => rfl
  | cons a l ih => rw [List.foldl_cons, hg a]; exact ih

/-- Pixels of the row are all in it. -/
theorem inV_apply (w : S2x2x8x1.Idx → BitVec 32) (hw : ∀ j, ∃ p : Fin 16384, w j = BitVec.ofNat 32 p.val) (y : S2x2x8.Idx) :
    inV w y = 1#1 := by
  unfold inV Host.reduce
  refine foldl_ones _ (fun n => ?_) _
  generalize S2x2x8x1.rowMajor.symm n = j
  obtain ⟨p, hp⟩ := hw j
  show IntOp.andi (BitVec.ofBool ((0#32).sle (w j))) (BitVec.ofBool ((w j).sle 16383#32)) = 1#1
  have e1 : (0#32).sle (w j) = true := by
    rw [hp]
    show decide (0 ≤ (BitVec.ofNat 32 p.val).toInt) = true
    rw [ofNat_toInt p.isLt.le]
    simp
  have e2 : (w j).sle 16383#32 = true := by
    rw [hp]
    show decide ((BitVec.ofNat 32 p.val).toInt ≤ (16383#32).toInt) = true
    rw [ofNat_toInt p.isLt.le, show (16383#32).toInt = 16383 from by decide]
    have := p.isLt
    exact decide_eq_true (by omega)
  rw [e1, e2]
  rfl

/-- How the features are gathered. -/
abbrev takes : GatherDims S2x2x16384x256 S2x2x8x1 S2x2x8x256 := gather_S2x2x16384x256_S2x2x8x1_S2x2x8x256_3_2_01_01_2_3_111256

/-- The features gathered, at an entry whose pixel is in the row. -/
theorem gather_apply (f : S2x2x16384x256.Idx → Elt Ideal .f32) (w : S2x2x8x1.Idx → BitVec 32) (l b : Fin 2) (i : Fin 8) (ch : Fin 256)
    (p : Fin 16384) (hp : w (ix4 l b i (0 : Fin 1)) = BitVec.ofNat 32 p.val) :
    Host.gather gather_S2x2x16384x256_S2x2x8x1_S2x2x8x256_3_2_01_01_2_3_111256 f w (ix4 l b i ch) = f (ix4 l b p ch) := by
  unfold Host.gather
  refine congrArg f (funext fun a => Fin.ext ?_)
  show takes.start (ix4 l b i ch) w a + takes.batchCoord (ix4 l b i ch) a + takes.offCoord (ix4 l b i ch) a = _
  have h4 : a = 0 ∨ a = 1 ∨ a = 2 ∨ a = 3 := by revert a; decide
  rcases h4 with rfl | rfl | rfl | rfl
  · rw [GatherDims.start_batching _ _ _ _ (by decide), GatherDims.offCoord_eq_zero _ _ _ (by decide)]
    simp only [Nat.zero_add, Nat.add_zero]
    rfl
  · rw [GatherDims.start_batching _ _ _ _ (by decide), GatherDims.offCoord_eq_zero _ _ _ (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (show (2 : Fin 4) ∈ takes.startIndexMap by decide)]
    have hsi : takes.siIdx (ix4 l b i ch) ⟨List.idxOf (2 : Fin 4) takes.startIndexMap, List.idxOf_lt_length_iff.2 (by decide)⟩
        = ix4 l b i (0 : Fin 1) :=
      funext fun c => Fin.ext (match c with | ⟨0, _⟩ => rfl | ⟨1, _⟩ => rfl | ⟨2, _⟩ => rfl | ⟨3, _⟩ => rfl)
    rw [hsi, hp, ofNat_toInt p.isLt.le]
    show min ((p.val : ℤ).toNat) (16384 - 1) = p.val
    have := p.isLt
    rw [Int.toNat_natCast]
    omega
  · rw [GatherDims.batchCoord_eq_zero _ _ _ (by decide)]
    have e : takes.start (ix4 l b i ch) w 3 = 0 := by
      unfold GatherDims.start
      exact dif_neg (by decide)
    rw [e]
    simp only [Nat.zero_add, Nat.add_zero]
    rfl

/-- The features taken, at an entry: those at the pixel. -/
theorem takeV_apply (f : S2x2x16384x256.Idx → Elt Ideal .f32) (w : S2x2x8x1.Idx → BitVec 32)
    (hw : ∀ j, ∃ p : Fin 16384, w j = BitVec.ofNat 32 p.val) (l b : Fin 2) (i : Fin 8) (ch : Fin 256)
    (p : Fin 16384) (hp : w (ix4 l b i (0 : Fin 1)) = BitVec.ofNat 32 p.val) :
    takeV (F := Ideal) f w (ix4 l b i ch) = f (ix4 l b p ch) := by
  unfold takeV
  rw [select_apply, broadcastInDim_apply _ _ _ _ (ix3 l b i) (fun a => match a with | ⟨0, _⟩ => rfl | ⟨1, _⟩ => rfl | ⟨2, _⟩ => rfl),
    inV_apply w hw, select_one]
  exact gather_apply f w l b i ch p hp

/-- THE REFERENCE'S RESULT at an entry: the mean over the levels, at the pixel where the scribble is greatest where it selects
    none. -/
theorem refV_apply (X : S2x2x256x128x128.Idx → Elt Ideal .f32) (Y : S2x8x128x128.Idx → Elt Ideal .f32) (b : Fin 2) (i : Fin 8)
    (ch : Fin 256) : ∃ p : Fin 16384, IsPick (scrib Y b i) p
      ∧ refV (F := Ideal) X Y (ix4 b (0 : Fin 1) i ch) = Ideal.div (∑ l : Fin 2, level (feat X b ch l) (scrib Y b i) p) ((2 : ℝ) : EReal) := by
  have hr : rowR (maskV (F := Ideal) Y) b i = scrib Y b i := funext fun h => maskV_apply Y b i h
  obtain ⟨p, hp, e⟩ := argV_pick (maskV Y) b i
  rw [hr] at hp
  refine ⟨p, hp, ?_⟩
  unfold refV
  rw [levelsV_apply]
  refine congrArg (fun z : EReal => Ideal.div z ((2 : ℝ) : EReal)) (Finset.sum_congr rfl fun l _ => ?_)
  rw [descV_apply, meanV_apply, countV_apply, sumV_apply, hr]
  have hw : ∀ j, ∃ q : Fin 16384, wrapV (idxV (argV (maskV Y))) j = BitVec.ofNat 32 q.val := fun j => by
    obtain ⟨q, -, eq⟩ := argV_pick (maskV Y) (j 1) (j 2)
    exact ⟨q, wrapV_apply _ j q ((idxV_apply _ j).trans eq)⟩
  rw [takeV_apply _ _ hw l b i ch p (wrapV_apply _ _ p ((idxV_apply _ _).trans e)), fmapV_apply]
  have hs : ∀ h : Fin 16384, (fmapV (F := Ideal) X (ix4 l b h ch) * selV (F := Ideal) (maskV Y) (ix3 b i h) : EReal)
      = feat X b ch l h * ((bit (chosen (scrib Y b i) h) : ℝ) : EReal) := fun h => by
    rw [fmapV_apply, selV_apply, hr]
  rw [Finset.sum_congr rfl fun h _ => hs h]
  rfl

end Cert.ReferenceIdeal.Run

end
-- ==== Proof.Equation.lean ====
/-
  THE EQUATION: the kernel's result is the reference's, entry by entry.
-/
module

public import proofs.«01_k».proof.Proof.KVal
public import proofs.«01_k».proof.Proof.SelVal
public import proofs.«01_k».proof.Proof.RefPick

@[expose] public section

noncomputable section

namespace Cert.Value

open Idealize.ShloMosaic Idealize.ShloMosaic.TcCoe
open Idealize.ShloMosaic.ValueIdx
open Cert.KernelIdeal (nD τ sig main_arg0 main_arg1)
open Cert.KernelIdeal.Run (resK resK_apply selOf_apply scrV scrV_apply rowOf)
open Cert.ReferenceIdeal.Run (refV refV_apply)

/-- THE EQUATION: of the same features and scribbles, the reference's result is what the kernel's program ends with. -/
theorem ref_eq_res (c : Dev nD) (m : (ℓ : Loc nD τ sig) → Buf (Elt Ideal) ℓ) :
    refV (F := Ideal) (m ((c : Thread nD τ).loc main_arg0)) (m ((c : Thread nD τ).loc main_arg1)) = resK c m := by
  funext y
  obtain ⟨b, u, i, ch, rfl⟩ : ∃ (b : Fin 2) (u : Fin 1) (i : Fin 8) (ch : Fin 256), y = ix4 b u i ch := ⟨y 0, y 1, y 2, y 3, eq_ix4 y⟩
  obtain rfl : u = 0 := Subsingleton.elim _ _
  obtain ⟨p, hp, e⟩ := refV_apply (m ((c : Thread nD τ).loc main_arg0)) (m ((c : Thread nD τ).loc main_arg1)) b i ch
  have hr : rowOf (scrV c (m ((c : Thread nD τ).loc main_arg1))) b i = scrib (m ((c : Thread nD τ).loc main_arg1)) b i :=
    funext fun h => scrV_apply c _ b i h
  refine e.trans (Eq.trans ?_ (resK_apply c m b i ch).symm)
  rw [← weight_level]
  refine Finset.sum_congr rfl fun h _ => ?_
  rw [selOf_apply _ b i (hr ▸ hp) h, hr]

end Cert.Value

end
-- ==== Proof.Algebraic.lean ====
/-
  THE VALUE: from the same arguments the idealized kernel and the reference end with one result.
-/
module

public import proofs.«01_k».proof.Defs
public import proofs.«01_k».proof.Proof.Whole
public import proofs.«01_k».proof.Proof.Reference
public import proofs.«01_k».proof.Proof.Equation

@[expose] public section

noncomputable section

namespace Cert.Proof

open Idealize.ShloMosaic Idealize.SL.Sem

/-- Over extended reals, from memories agreeing on the five arguments, the two programs end with the same result: the
    kernel's, which is the reference's by the equation of the two values. Both leave their arguments as they were. -/
theorem algebraic : Cert.algebraic_KernelIdeal_ReferenceIdeal (hKernelIdeal := Cert.KernelIdeal.Gen.facts)
    (hReferenceIdeal := Cert.ReferenceIdeal.Gen.facts) := by
  intro m g m' g' _ agree
  refine ⟨fun c => Cert.KernelIdeal.Run.resK c m,
    (θ_run _ _ _).mono (fun _ h => h.1) (Cert.KernelIdeal.Run.run_read m g),
    (θ_run _ _ _).mono (fun _ h c => ⟨(h c).1.trans ?_, (h c).2⟩) (Cert.ReferenceIdeal.Run.run_read m' g')⟩
  exact (congrArg₂ (Cert.ReferenceIdeal.Run.refV (F := Ideal)) (agree c).1 (agree c).2.1).trans (Cert.Value.ref_eq_res c m)

end Cert.Proof

end
-- ==== Proof.lean ====
/-
  THE CLAIMS: each program runs, leaves its arguments as they were and every counter at zero; the idealized kernel is the
  kernel's own text; and over extended reals it computes what the reference computes.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim, with the side conditions of the three programs. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
